-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S18 : Shape := ⟨1, ![18]⟩
abbrev S17 : Shape := ⟨1, ![17]⟩
abbrev S1 : Shape := ⟨1, ![1]⟩
abbrev S_ : Shape := ⟨0, ![]⟩
abbrev S32x1024 : Shape := ⟨2, ![32, 1024]⟩
abbrev S64x1024 : Shape := ⟨2, ![64, 1024]⟩
abbrev S96x1024 : Shape := ⟨2, ![96, 1024]⟩
abbrev S104x1024 : Shape := ⟨2, ![104, 1024]⟩
abbrev S72x1024 : Shape := ⟨2, ![72, 1024]⟩
abbrev S80x1024 : Shape := ⟨2, ![80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => false
  | ⟨1, _⟩ => true
  | _ => false

abbrev dmaSemScoped : Fin 140 → Bool
  | ⟨i, _⟩ => dmaSemScopedAt i

abbrev sig : RefSig :=
  (ofTc nBuf bufTy 2 140 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32_15 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v32 : BitVec 32 := Scalar.addi v11 c0_i32_15
  let c4_i32_16 : BitVec 32 := 4#32
  let c0_i32_17 : BitVec 32 := 0#32
  let v33 : BitVec 1 := Scalar.cmpi .eq c4_i32_16 c0_i32_17
  let c1_i32_18 : BitVec 32 := 1#32
  let v34 : BitVec 32 := Scalar.select v33 c1_i32_18 c4_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let c1024_i32 : BitVec 32 := 1024#32
  let v43 : BitVec 32 := Scalar.muli v42 c1024_i32
  let c0_i32_22 : BitVec 32 := 0#32
  let v44 : BitVec 32 := Scalar.addi v43 c0_i32_22
  let c0_i32_24 : BitVec 32 := 0#32
  ![v44.toNat, 0]
def k0_off2 (d0 : Dev nD) (c0_i32_26 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v49 : BitVec 32 := Scalar.addi v11 c0_i32_26
  let c4_i32_27 : BitVec 32 := 4#32
  let c0_i32_28 : BitVec 32 := 0#32
  let v50 : BitVec 1 := Scalar.cmpi .eq c4_i32_27 c0_i32_28
  let c1_i32_29 : BitVec 32 := 1#32
  let v51 : BitVec 32 := Scalar.select v50 c1_i32_29 c4_i32_27
  let v52 : BitVec 32 := Scalar.remsi v49 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1024_i32_33 : BitVec 32 := 1024#32
  let v60 : BitVec 32 := Scalar.muli v59 c1024_i32_33
  let c32_i32 : BitVec 32 := 32#32
  let v61 : BitVec 32 := Scalar.addi v60 c32_i32
  let c0_i32_35 : BitVec 32 := 0#32
  ![v61.toNat, 0]
def k0_off3 (d0 : Dev nD) (c0_i32_37 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v66 : BitVec 32 := Scalar.addi v11 c0_i32_37
  let c4_i32_38 : BitVec 32 := 4#32
  let c0_i32_39 : BitVec 32 := 0#32
  let v67 : BitVec 1 := Scalar.cmpi .eq c4_i32_38 c0_i32_39
  let c1_i32_40 : BitVec 32 := 1#32
  let v68 : BitVec 32 := Scalar.select v67 c1_i32_40 c4_i32_38
  let v69 : BitVec 32 := Scalar.remsi v66 v68
  let c0_i32_42 : BitVec 32 := 0#32
  let v71 : BitVec 1 := Scalar.cmpi .slt v69 c0_i32_42
  let c0_i32_43 : BitVec 32 := 0#32
  let v72 : BitVec 1 := Scalar.cmpi .slt v68 c0_i32_43
  let v73 : BitVec 1 := Scalar.xori v71 v72
  let c0_i32_41 : BitVec 32 := 0#32
  let v70 : BitVec 1 := Scalar.cmpi .ne v69 c0_i32_41
  let v74 : BitVec 1 := Scalar.andi v73 v70
  let v75 : BitVec 32 := Scalar.addi v69 v68
  let v76 : BitVec 32 := Scalar.select v74 v75 v69
  let c1024_i32_44 : BitVec 32 := 1024#32
  let v77 : BitVec 32 := Scalar.muli v76 c1024_i32_44
  let c96_i32 : BitVec 32 := 96#32
  let v78 : BitVec 32 := Scalar.addi v77 c96_i32
  let c0_i32_46 : BitVec 32 := 0#32
  ![v78.toNat, 0]
def k0_off4 (d0 : Dev nD) (c0_i32_48 : BitVec 32) (c192_i32 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v83 : BitVec 32 := Scalar.addi v11 c0_i32_48
  let c4_i32_49 : BitVec 32 := 4#32
  let c0_i32_50 : BitVec 32 := 0#32
  let v84 : BitVec 1 := Scalar.cmpi .eq c4_i32_49 c0_i32_50
  let c1_i32_51 : BitVec 32 := 1#32
  let v85 : BitVec 32 := Scalar.select v84 c1_i32_51 c4_i32_49
  let v86 : BitVec 32 := Scalar.remsi v83 v85
  let c0_i32_53 : BitVec 32 := 0#32
  let v88 : BitVec 1 := Scalar.cmpi .slt v86 c0_i32_53
  let c0_i32_54 : BitVec 32 := 0#32
  let v89 : BitVec 1 := Scalar.cmpi .slt v85 c0_i32_54
  let v90 : BitVec 1 := Scalar.xori v88 v89
  let c0_i32_52 : BitVec 32 := 0#32
  let v87 : BitVec 1 := Scalar.cmpi .ne v86 c0_i32_52
  let v91 : BitVec 1 := Scalar.andi v90 v87
  let v92 : BitVec 32 := Scalar.addi v86 v85
  let v93 : BitVec 32 := Scalar.select v91 v92 v86
  let c1024_i32_55 : BitVec 32 := 1024#32
  let v94 : BitVec 32 := Scalar.muli v93 c1024_i32_55
  let v95 : BitVec 32 := Scalar.addi v94 c192_i32
  let c0_i32_56 : BitVec 32 := 0#32
  ![v95.toNat, 0]
def k0_off5 (d0 : Dev nD) (c0_i32_69 : BitVec 32) (c400_i32 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v117 : BitVec 32 := Scalar.addi v11 c0_i32_69
  let c4_i32_70 : BitVec 32 := 4#32
  let c0_i32_71 : BitVec 32 := 0#32
  let v118 : BitVec 1 := Scalar.cmpi .eq c4_i32_70 c0_i32_71
  let c1_i32_72 : BitVec 32 := 1#32
  let v119 : BitVec 32 := Scalar.select v118 c1_i32_72 c4_i32_70
  let v120 : BitVec 32 := Scalar.remsi v117 v119
  let c0_i32_74 : BitVec 32 := 0#32
  let v122 : BitVec 1 := Scalar.cmpi .slt v120 c0_i32_74
  let c0_i32_75 : BitVec 32 := 0#32
  let v123 : BitVec 1 := Scalar.cmpi .slt v119 c0_i32_75
  let v124 : BitVec 1 := Scalar.xori v122 v123
  let c0_i32_73 : BitVec 32 := 0#32
  let v121 : BitVec 1 := Scalar.cmpi .ne v120 c0_i32_73
  let v125 : BitVec 1 := Scalar.andi v124 v121
  let v126 : BitVec 32 := Scalar.addi v120 v119
  let v127 : BitVec 32 := Scalar.select v125 v126 v120
  let c1024_i32_76 : BitVec 32 := 1024#32
  let v128 : BitVec 32 := Scalar.muli v127 c1024_i32_76
  let v129 : BitVec 32 := Scalar.addi v128 c400_i32
  let c0_i32_77 : BitVec 32 := 0#32
  ![v129.toNat, 0]
def k0_off6 (d0 : Dev nD) (c0_i32_79 : BitVec 32) (c472_i32 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v134 : BitVec 32 := Scalar.addi v11 c0_i32_79
  let c4_i32_80 : BitVec 32 := 4#32
  let c0_i32_81 : BitVec 32 := 0#32
  let v135 : BitVec 1 := Scalar.cmpi .eq c4_i32_80 c0_i32_81
  let c1_i32_82 : BitVec 32 := 1#32
  let v136 : BitVec 32 := Scalar.select v135 c1_i32_82 c4_i32_80
  let v137 : BitVec 32 := Scalar.remsi v134 v136
  let c0_i32_84 : BitVec 32 := 0#32
  let v139 : BitVec 1 := Scalar.cmpi .slt v137 c0_i32_84
  let c0_i32_85 : BitVec 32 := 0#32
  let v140 : BitVec 1 := Scalar.cmpi .slt v136 c0_i32_85
  let v141 : BitVec 1 := Scalar.xori v139 v140
  let c0_i32_83 : BitVec 32 := 0#32
  let v138 : BitVec 1 := Scalar.cmpi .ne v137 c0_i32_83
  let v142 : BitVec 1 := Scalar.andi v141 v138
  let v143 : BitVec 32 := Scalar.addi v137 v136
  let v144 : BitVec 32 := Scalar.select v142 v143 v137
  let c1024_i32_86 : BitVec 32 := 1024#32
  let v145 : BitVec 32 := Scalar.muli v144 c1024_i32_86
  let v146 : BitVec 32 := Scalar.addi v145 c472_i32
  let c0_i32_87 : BitVec 32 := 0#32
  ![v146.toNat, 0]
def k0_off6_at (r : Fin 24) : BitVec 32 × BitVec 32 :=
  if r.val < 12 then
    if r.val < 6 then
      if r.val < 3 then
        if r.val < 1 then
          (0#32, 472#32)
        else
          if r.val < 2 then
            (0#32, 552#32)
          else
            (0#32, 632#32)
      else
        if r.val < 4 then
          (0#32, 784#32)
        else
          if r.val < 5 then
            (0#32, 864#32)
          else
            (0#32, 944#32)
    else
      if r.val < 9 then
        if r.val < 7 then
          (1#32, 472#32)
        else
          if r.val < 8 then
            (1#32, 552#32)
          else
            (1#32, 632#32)
      else
        if r.val < 10 then
          (3#32, 784#32)
        else
          if r.val < 11 then
            (3#32, 864#32)
          else
            (3#32, 944#32)
  else
    if r.val < 18 then
      if r.val < 15 then
        if r.val < 13 then
          (3#32, 472#32)
        else
          if r.val < 14 then
            (3#32, 552#32)
          else
            (3#32, 632#32)
      else
        if r.val < 16 then
          (1#32, 784#32)
        else
          if r.val < 17 then
            (1#32, 864#32)
          else
            (1#32, 944#32)
    else
      if r.val < 21 then
        if r.val < 19 then
          (2#32, 784#32)
        else
          if r.val < 20 then
            (2#32, 472#32)
          else
            (2#32, 864#32)
      else
        if r.val < 22 then
          (2#32, 552#32)
        else
          if r.val < 23 then
            (2#32, 944#32)
          else
            (2#32, 632#32)
def k0_dev1 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v339 : BitVec 32 := Scalar.muli v2 c4_i32_205
  let v340 : BitVec 32 := Scalar.addi c0_i32_206 v339
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_207 : BitVec 32 := 2#32
  let v341 : BitVec 32 := Scalar.muli v31 c2_i32_207
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v343 : BitVec 32 := Scalar.muli v8 c1_i32_208
  let v344 : BitVec 32 := Scalar.addi v342 v343
  v344.toNat
def k0_dev2 (d0 : Dev nD) : Nat :=
  let c0_i32_211 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_210 : BitVec 32 := 4#32
  let v345 : BitVec 32 := Scalar.muli v24 c4_i32_210
  let v346 : BitVec 32 := Scalar.addi c0_i32_211 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v347 : BitVec 32 := Scalar.muli v5 c2_i32_212
  let v348 : BitVec 32 := Scalar.addi v346 v347
  let c1_i32_11 : BitVec 32 := 1#32
  let v25 : BitVec 32 := Scalar.subi c1_i32_11 v8
  let v26 : BitVec 32 := Scalar.select v22 v25 v8
  let c1_i32_213 : BitVec 32 := 1#32
  let v349 : BitVec 32 := Scalar.muli v26 c1_i32_213
  let v350 : BitVec 32 := Scalar.addi v348 v349
  v350.toNat
def k0_dev3 (d0 : Dev nD) : Nat :=
  let c0_i32_216 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_215 : BitVec 32 := 4#32
  let v351 : BitVec 32 := Scalar.muli v28 c4_i32_215
  let v352 : BitVec 32 := Scalar.addi c0_i32_216 v351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v353 : BitVec 32 := Scalar.muli v5 c2_i32_217
  let v354 : BitVec 32 := Scalar.addi v352 v353
  let c1_i32_13 : BitVec 32 := 1#32
  let v29 : BitVec 32 := Scalar.subi c1_i32_13 v8
  let v30 : BitVec 32 := Scalar.select v22 v8 v29
  let c1_i32_218 : BitVec 32 := 1#32
  let v355 : BitVec 32 := Scalar.muli v30 c1_i32_218
  let v356 : BitVec 32 := Scalar.addi v354 v355
  v356.toNat
def k0_dev4 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v374 : BitVec 32 := Scalar.muli v2 c4_i32_234
  let v375 : BitVec 32 := Scalar.addi c0_i32_235 v374
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_236 : BitVec 32 := 2#32
  let v376 : BitVec 32 := Scalar.muli v31 c2_i32_236
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v378 : BitVec 32 := Scalar.muli v8 c1_i32_237
  let v379 : BitVec 32 := Scalar.addi v377 v378
  v379.toNat
def k0_dev5 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v403 : BitVec 32 := Scalar.muli v2 c4_i32_254
  let v404 : BitVec 32 := Scalar.addi c0_i32_255 v403
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_256 : BitVec 32 := 2#32
  let v405 : BitVec 32 := Scalar.muli v31 c2_i32_256
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v407 : BitVec 32 := Scalar.muli v8 c1_i32_257
  let v408 : BitVec 32 := Scalar.addi v406 v407
  v408.toNat
def k0_dev6 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v432 : BitVec 32 := Scalar.muli v2 c4_i32_274
  let v433 : BitVec 32 := Scalar.addi c0_i32_275 v432
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_276 : BitVec 32 := 2#32
  let v434 : BitVec 32 := Scalar.muli v31 c2_i32_276
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v436 : BitVec 32 := Scalar.muli v8 c1_i32_277
  let v437 : BitVec 32 := Scalar.addi v435 v436
  v437.toNat
def k0_dev7 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v461 : BitVec 32 := Scalar.muli v2 c4_i32_294
  let v462 : BitVec 32 := Scalar.addi c0_i32_295 v461
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_296 : BitVec 32 := 2#32
  let v463 : BitVec 32 := Scalar.muli v31 c2_i32_296
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v465 : BitVec 32 := Scalar.muli v8 c1_i32_297
  let v466 : BitVec 32 := Scalar.addi v464 v465
  v466.toNat
def k0_dev8 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v490 : BitVec 32 := Scalar.muli v2 c4_i32_314
  let v491 : BitVec 32 := Scalar.addi c0_i32_315 v490
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_316 : BitVec 32 := 2#32
  let v492 : BitVec 32 := Scalar.muli v31 c2_i32_316
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v494 : BitVec 32 := Scalar.muli v8 c1_i32_317
  let v495 : BitVec 32 := Scalar.addi v493 v494
  v495.toNat
def k0_dev9 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v519 : BitVec 32 := Scalar.muli v2 c4_i32_334
  let v520 : BitVec 32 := Scalar.addi c0_i32_335 v519
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_336 : BitVec 32 := 2#32
  let v521 : BitVec 32 := Scalar.muli v31 c2_i32_336
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v523 : BitVec 32 := Scalar.muli v8 c1_i32_337
  let v524 : BitVec 32 := Scalar.addi v522 v523
  v524.toNat
def k0_dev10 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v548 : BitVec 32 := Scalar.muli v2 c4_i32_354
  let v549 : BitVec 32 := Scalar.addi c0_i32_355 v548
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_356 : BitVec 32 := 2#32
  let v550 : BitVec 32 := Scalar.muli v31 c2_i32_356
  let v551 : BitVec 32 := Scalar.addi v549 v550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v552 : BitVec 32 := Scalar.muli v8 c1_i32_357
  let v553 : BitVec 32 := Scalar.addi v551 v552
  v553.toNat
def k0_dev11 (d0 : Dev nD) : Nat :=
  let c0_i32_375 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_374 : BitVec 32 := 4#32
  let v577 : BitVec 32 := Scalar.muli v2 c4_i32_374
  let v578 : BitVec 32 := Scalar.addi c0_i32_375 v577
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_376 : BitVec 32 := 2#32
  let v579 : BitVec 32 := Scalar.muli v31 c2_i32_376
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_377 : BitVec 32 := 1#32
  let v581 : BitVec 32 := Scalar.muli v8 c1_i32_377
  let v582 : BitVec 32 := Scalar.addi v580 v581
  v582.toNat
def k0_dev12 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v606 : BitVec 32 := Scalar.muli v2 c4_i32_394
  let v607 : BitVec 32 := Scalar.addi c0_i32_395 v606
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_396 : BitVec 32 := 2#32
  let v608 : BitVec 32 := Scalar.muli v31 c2_i32_396
  let v609 : BitVec 32 := Scalar.addi v607 v608
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_397 : BitVec 32 := 1#32
  let v610 : BitVec 32 := Scalar.muli v8 c1_i32_397
  let v611 : BitVec 32 := Scalar.addi v609 v610
  v611.toNat
def k0_dev13 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_414 : BitVec 32 := 4#32
  let v635 : BitVec 32 := Scalar.muli v2 c4_i32_414
  let v636 : BitVec 32 := Scalar.addi c0_i32_415 v635
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_416 : BitVec 32 := 2#32
  let v637 : BitVec 32 := Scalar.muli v31 c2_i32_416
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v639 : BitVec 32 := Scalar.muli v8 c1_i32_417
  let v640 : BitVec 32 := Scalar.addi v638 v639
  v640.toNat
def k0_dev14 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_434 : BitVec 32 := 4#32
  let v664 : BitVec 32 := Scalar.muli v2 c4_i32_434
  let v665 : BitVec 32 := Scalar.addi c0_i32_435 v664
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_436 : BitVec 32 := 2#32
  let v666 : BitVec 32 := Scalar.muli v31 c2_i32_436
  let v667 : BitVec 32 := Scalar.addi v665 v666
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v668 : BitVec 32 := Scalar.muli v8 c1_i32_437
  let v669 : BitVec 32 := Scalar.addi v667 v668
  v669.toNat
def k0_dev15 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v693 : BitVec 32 := Scalar.muli v2 c4_i32_454
  let v694 : BitVec 32 := Scalar.addi c0_i32_455 v693
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_456 : BitVec 32 := 2#32
  let v695 : BitVec 32 := Scalar.muli v31 c2_i32_456
  let v696 : BitVec 32 := Scalar.addi v694 v695
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_457 : BitVec 32 := 1#32
  let v697 : BitVec 32 := Scalar.muli v8 c1_i32_457
  let v698 : BitVec 32 := Scalar.addi v696 v697
  v698.toNat
def k0_dev16 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v722 : BitVec 32 := Scalar.muli v2 c4_i32_474
  let v723 : BitVec 32 := Scalar.addi c0_i32_475 v722
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_476 : BitVec 32 := 2#32
  let v724 : BitVec 32 := Scalar.muli v31 c2_i32_476
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_477 : BitVec 32 := 1#32
  let v726 : BitVec 32 := Scalar.muli v8 c1_i32_477
  let v727 : BitVec 32 := Scalar.addi v725 v726
  v727.toNat
def k0_dev17 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v751 : BitVec 32 := Scalar.muli v2 c4_i32_494
  let v752 : BitVec 32 := Scalar.addi c0_i32_495 v751
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_496 : BitVec 32 := 2#32
  let v753 : BitVec 32 := Scalar.muli v31 c2_i32_496
  let v754 : BitVec 32 := Scalar.addi v752 v753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_497 : BitVec 32 := 1#32
  let v755 : BitVec 32 := Scalar.muli v8 c1_i32_497
  let v756 : BitVec 32 := Scalar.addi v754 v755
  v756.toNat
def k0_dev18 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v780 : BitVec 32 := Scalar.muli v2 c4_i32_514
  let v781 : BitVec 32 := Scalar.addi c0_i32_515 v780
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_516 : BitVec 32 := 2#32
  let v782 : BitVec 32 := Scalar.muli v31 c2_i32_516
  let v783 : BitVec 32 := Scalar.addi v781 v782
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_517 : BitVec 32 := 1#32
  let v784 : BitVec 32 := Scalar.muli v8 c1_i32_517
  let v785 : BitVec 32 := Scalar.addi v783 v784
  v785.toNat
def k0_dev19 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_534 : BitVec 32 := 4#32
  let v809 : BitVec 32 := Scalar.muli v2 c4_i32_534
  let v810 : BitVec 32 := Scalar.addi c0_i32_535 v809
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_536 : BitVec 32 := 2#32
  let v811 : BitVec 32 := Scalar.muli v31 c2_i32_536
  let v812 : BitVec 32 := Scalar.addi v810 v811
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_537 : BitVec 32 := 1#32
  let v813 : BitVec 32 := Scalar.muli v8 c1_i32_537
  let v814 : BitVec 32 := Scalar.addi v812 v813
  v814.toNat
def k0_dev20 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v838 : BitVec 32 := Scalar.muli v2 c4_i32_554
  let v839 : BitVec 32 := Scalar.addi c0_i32_555 v838
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_556 : BitVec 32 := 2#32
  let v840 : BitVec 32 := Scalar.muli v31 c2_i32_556
  let v841 : BitVec 32 := Scalar.addi v839 v840
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_557 : BitVec 32 := 1#32
  let v842 : BitVec 32 := Scalar.muli v8 c1_i32_557
  let v843 : BitVec 32 := Scalar.addi v841 v842
  v843.toNat
def k0_dev21 (d0 : Dev nD) : Nat :=
  let c0_i32_575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_574 : BitVec 32 := 4#32
  let v867 : BitVec 32 := Scalar.muli v2 c4_i32_574
  let v868 : BitVec 32 := Scalar.addi c0_i32_575 v867
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_576 : BitVec 32 := 2#32
  let v869 : BitVec 32 := Scalar.muli v31 c2_i32_576
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_577 : BitVec 32 := 1#32
  let v871 : BitVec 32 := Scalar.muli v8 c1_i32_577
  let v872 : BitVec 32 := Scalar.addi v870 v871
  v872.toNat
def k0_off7 (d0 : Dev nD) (c0_i32_580 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v879 : BitVec 32 := Scalar.addi v11 c0_i32_580
  let c4_i32_581 : BitVec 32 := 4#32
  let c0_i32_582 : BitVec 32 := 0#32
  let v880 : BitVec 1 := Scalar.cmpi .eq c4_i32_581 c0_i32_582
  let c1_i32_583 : BitVec 32 := 1#32
  let v881 : BitVec 32 := Scalar.select v880 c1_i32_583 c4_i32_581
  let v882 : BitVec 32 := Scalar.remsi v879 v881
  let c0_i32_585 : BitVec 32 := 0#32
  let v884 : BitVec 1 := Scalar.cmpi .slt v882 c0_i32_585
  let c0_i32_586 : BitVec 32 := 0#32
  let v885 : BitVec 1 := Scalar.cmpi .slt v881 c0_i32_586
  let v886 : BitVec 1 := Scalar.xori v884 v885
  let c0_i32_584 : BitVec 32 := 0#32
  let v883 : BitVec 1 := Scalar.cmpi .ne v882 c0_i32_584
  let v887 : BitVec 1 := Scalar.andi v886 v883
  let v888 : BitVec 32 := Scalar.addi v882 v881
  let v889 : BitVec 32 := Scalar.select v887 v888 v882
  let c1024_i32_587 : BitVec 32 := 1024#32
  let v890 : BitVec 32 := Scalar.muli v889 c1024_i32_587
  let c0_i32_588 : BitVec 32 := 0#32
  let v891 : BitVec 32 := Scalar.addi v890 c0_i32_588
  let v906 : Index := Scalar.indexCast v891
  let c0 : Index := 0#32
  ![v906.toNat, 0]
def k0_dev22 (d0 : Dev nD) : Nat :=
  let c0_i32_619 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_618 : BitVec 32 := 4#32
  let v932 : BitVec 32 := Scalar.muli v24 c4_i32_618
  let v933 : BitVec 32 := Scalar.addi c0_i32_619 v932
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v934 : BitVec 32 := Scalar.muli v5 c2_i32_620
  let v935 : BitVec 32 := Scalar.addi v933 v934
  let c1_i32_11 : BitVec 32 := 1#32
  let v25 : BitVec 32 := Scalar.subi c1_i32_11 v8
  let v26 : BitVec 32 := Scalar.select v22 v25 v8
  let c1_i32_621 : BitVec 32 := 1#32
  let v936 : BitVec 32 := Scalar.muli v26 c1_i32_621
  let v937 : BitVec 32 := Scalar.addi v935 v936
  v937.toNat
def k0_dev23 (d0 : Dev nD) : Nat :=
  let c0_i32_636 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_635 : BitVec 32 := 4#32
  let v957 : BitVec 32 := Scalar.muli v28 c4_i32_635
  let v958 : BitVec 32 := Scalar.addi c0_i32_636 v957
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_637 : BitVec 32 := 2#32
  let v959 : BitVec 32 := Scalar.muli v5 c2_i32_637
  let v960 : BitVec 32 := Scalar.addi v958 v959
  let c1_i32_13 : BitVec 32 := 1#32
  let v29 : BitVec 32 := Scalar.subi c1_i32_13 v8
  let v30 : BitVec 32 := Scalar.select v22 v8 v29
  let c1_i32_638 : BitVec 32 := 1#32
  let v961 : BitVec 32 := Scalar.muli v30 c1_i32_638
  let v962 : BitVec 32 := Scalar.addi v960 v961
  v962.toNat
def k0_off8 (d0 : Dev nD) (c0_i32_641 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v969 : BitVec 32 := Scalar.addi v11 c0_i32_641
  let c4_i32_642 : BitVec 32 := 4#32
  let c0_i32_643 : BitVec 32 := 0#32
  let v970 : BitVec 1 := Scalar.cmpi .eq c4_i32_642 c0_i32_643
  let c1_i32_644 : BitVec 32 := 1#32
  let v971 : BitVec 32 := Scalar.select v970 c1_i32_644 c4_i32_642
  let v972 : BitVec 32 := Scalar.remsi v969 v971
  let c0_i32_646 : BitVec 32 := 0#32
  let v974 : BitVec 1 := Scalar.cmpi .slt v972 c0_i32_646
  let c0_i32_647 : BitVec 32 := 0#32
  let v975 : BitVec 1 := Scalar.cmpi .slt v971 c0_i32_647
  let v976 : BitVec 1 := Scalar.xori v974 v975
  let c0_i32_645 : BitVec 32 := 0#32
  let v973 : BitVec 1 := Scalar.cmpi .ne v972 c0_i32_645
  let v977 : BitVec 1 := Scalar.andi v976 v973
  let v978 : BitVec 32 := Scalar.addi v972 v971
  let v979 : BitVec 32 := Scalar.select v977 v978 v972
  let c1024_i32_648 : BitVec 32 := 1024#32
  let v980 : BitVec 32 := Scalar.muli v979 c1024_i32_648
  let c32_i32_649 : BitVec 32 := 32#32
  let v981 : BitVec 32 := Scalar.addi v980 c32_i32_649
  let v996 : Index := Scalar.indexCast v981
  let c0_663 : Index := 0#32
  ![v996.toNat, 0]
def k0_dev24 (d0 : Dev nD) : Nat :=
  let c0_i32_681 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_680 : BitVec 32 := 4#32
  let v1022 : BitVec 32 := Scalar.muli v24 c4_i32_680
  let v1023 : BitVec 32 := Scalar.addi c0_i32_681 v1022
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_682 : BitVec 32 := 2#32
  let v1024 : BitVec 32 := Scalar.muli v5 c2_i32_682
  let v1025 : BitVec 32 := Scalar.addi v1023 v1024
  let c1_i32_11 : BitVec 32 := 1#32
  let v25 : BitVec 32 := Scalar.subi c1_i32_11 v8
  let v26 : BitVec 32 := Scalar.select v22 v25 v8
  let c1_i32_683 : BitVec 32 := 1#32
  let v1026 : BitVec 32 := Scalar.muli v26 c1_i32_683
  let v1027 : BitVec 32 := Scalar.addi v1025 v1026
  v1027.toNat
def k0_dev25 (d0 : Dev nD) : Nat :=
  let c0_i32_698 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_697 : BitVec 32 := 4#32
  let v1047 : BitVec 32 := Scalar.muli v28 c4_i32_697
  let v1048 : BitVec 32 := Scalar.addi c0_i32_698 v1047
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_699 : BitVec 32 := 2#32
  let v1049 : BitVec 32 := Scalar.muli v5 c2_i32_699
  let v1050 : BitVec 32 := Scalar.addi v1048 v1049
  let c1_i32_13 : BitVec 32 := 1#32
  let v29 : BitVec 32 := Scalar.subi c1_i32_13 v8
  let v30 : BitVec 32 := Scalar.select v22 v8 v29
  let c1_i32_700 : BitVec 32 := 1#32
  let v1051 : BitVec 32 := Scalar.muli v30 c1_i32_700
  let v1052 : BitVec 32 := Scalar.addi v1050 v1051
  v1052.toNat
def k0_off9 (d0 : Dev nD) (c0_i32_703 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v1059 : BitVec 32 := Scalar.addi v11 c0_i32_703
  let c4_i32_704 : BitVec 32 := 4#32
  let c0_i32_705 : BitVec 32 := 0#32
  let v1060 : BitVec 1 := Scalar.cmpi .eq c4_i32_704 c0_i32_705
  let c1_i32_706 : BitVec 32 := 1#32
  let v1061 : BitVec 32 := Scalar.select v1060 c1_i32_706 c4_i32_704
  let v1062 : BitVec 32 := Scalar.remsi v1059 v1061
  let c0_i32_708 : BitVec 32 := 0#32
  let v1064 : BitVec 1 := Scalar.cmpi .slt v1062 c0_i32_708
  let c0_i32_709 : BitVec 32 := 0#32
  let v1065 : BitVec 1 := Scalar.cmpi .slt v1061 c0_i32_709
  let v1066 : BitVec 1 := Scalar.xori v1064 v1065
  let c0_i32_707 : BitVec 32 := 0#32
  let v1063 : BitVec 1 := Scalar.cmpi .ne v1062 c0_i32_707
  let v1067 : BitVec 1 := Scalar.andi v1066 v1063
  let v1068 : BitVec 32 := Scalar.addi v1062 v1061
  let v1069 : BitVec 32 := Scalar.select v1067 v1068 v1062
  let c1024_i32_710 : BitVec 32 := 1024#32
  let v1070 : BitVec 32 := Scalar.muli v1069 c1024_i32_710
  let c96_i32_711 : BitVec 32 := 96#32
  let v1071 : BitVec 32 := Scalar.addi v1070 c96_i32_711
  let v1086 : Index := Scalar.indexCast v1071
  let c0_725 : Index := 0#32
  ![v1086.toNat, 0]
def k0_dev26 (d0 : Dev nD) : Nat :=
  let c0_i32_743 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_742 : BitVec 32 := 4#32
  let v1112 : BitVec 32 := Scalar.muli v24 c4_i32_742
  let v1113 : BitVec 32 := Scalar.addi c0_i32_743 v1112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_744 : BitVec 32 := 2#32
  let v1114 : BitVec 32 := Scalar.muli v5 c2_i32_744
  let v1115 : BitVec 32 := Scalar.addi v1113 v1114
  let c1_i32_11 : BitVec 32 := 1#32
  let v25 : BitVec 32 := Scalar.subi c1_i32_11 v8
  let v26 : BitVec 32 := Scalar.select v22 v25 v8
  let c1_i32_745 : BitVec 32 := 1#32
  let v1116 : BitVec 32 := Scalar.muli v26 c1_i32_745
  let v1117 : BitVec 32 := Scalar.addi v1115 v1116
  v1117.toNat
def k0_dev27 (d0 : Dev nD) : Nat :=
  let c0_i32_760 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_759 : BitVec 32 := 4#32
  let v1137 : BitVec 32 := Scalar.muli v28 c4_i32_759
  let v1138 : BitVec 32 := Scalar.addi c0_i32_760 v1137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_761 : BitVec 32 := 2#32
  let v1139 : BitVec 32 := Scalar.muli v5 c2_i32_761
  let v1140 : BitVec 32 := Scalar.addi v1138 v1139
  let c1_i32_13 : BitVec 32 := 1#32
  let v29 : BitVec 32 := Scalar.subi c1_i32_13 v8
  let v30 : BitVec 32 := Scalar.select v22 v8 v29
  let c1_i32_762 : BitVec 32 := 1#32
  let v1141 : BitVec 32 := Scalar.muli v30 c1_i32_762
  let v1142 : BitVec 32 := Scalar.addi v1140 v1141
  v1142.toNat
def k0_off10 (d0 : Dev nD) (c0_i32_765 : BitVec 32) (c192_i32_773 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let v1149 : BitVec 32 := Scalar.addi v11 c0_i32_765
  let c4_i32_766 : BitVec 32 := 4#32
  let c0_i32_767 : BitVec 32 := 0#32
  let v1150 : BitVec 1 := Scalar.cmpi .eq c4_i32_766 c0_i32_767
  let c1_i32_768 : BitVec 32 := 1#32
  let v1151 : BitVec 32 := Scalar.select v1150 c1_i32_768 c4_i32_766
  let v1152 : BitVec 32 := Scalar.remsi v1149 v1151
  let c0_i32_770 : BitVec 32 := 0#32
  let v1154 : BitVec 1 := Scalar.cmpi .slt v1152 c0_i32_770
  let c0_i32_771 : BitVec 32 := 0#32
  let v1155 : BitVec 1 := Scalar.cmpi .slt v1151 c0_i32_771
  let v1156 : BitVec 1 := Scalar.xori v1154 v1155
  let c0_i32_769 : BitVec 32 := 0#32
  let v1153 : BitVec 1 := Scalar.cmpi .ne v1152 c0_i32_769
  let v1157 : BitVec 1 := Scalar.andi v1156 v1153
  let v1158 : BitVec 32 := Scalar.addi v1152 v1151
  let v1159 : BitVec 32 := Scalar.select v1157 v1158 v1152
  let c1024_i32_772 : BitVec 32 := 1024#32
  let v1160 : BitVec 32 := Scalar.muli v1159 c1024_i32_772
  let v1161 : BitVec 32 := Scalar.addi v1160 c192_i32_773
  let v1176 : Index := Scalar.indexCast v1161
  let c0_787 : Index := 0#32
  ![v1176.toNat, 0]
def k0_dev28 (d0 : Dev nD) : Nat :=
  let c0_i32_805 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_804 : BitVec 32 := 4#32
  let v1202 : BitVec 32 := Scalar.muli v24 c4_i32_804
  let v1203 : BitVec 32 := Scalar.addi c0_i32_805 v1202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_806 : BitVec 32 := 2#32
  let v1204 : BitVec 32 := Scalar.muli v5 c2_i32_806
  let v1205 : BitVec 32 := Scalar.addi v1203 v1204
  let c1_i32_11 : BitVec 32 := 1#32
  let v25 : BitVec 32 := Scalar.subi c1_i32_11 v8
  let v26 : BitVec 32 := Scalar.select v22 v25 v8
  let c1_i32_807 : BitVec 32 := 1#32
  let v1206 : BitVec 32 := Scalar.muli v26 c1_i32_807
  let v1207 : BitVec 32 := Scalar.addi v1205 v1206
  v1207.toNat
def k0_dev29 (d0 : Dev nD) : Nat :=
  let c0_i32_822 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_821 : BitVec 32 := 4#32
  let v1227 : BitVec 32 := Scalar.muli v28 c4_i32_821
  let v1228 : BitVec 32 := Scalar.addi c0_i32_822 v1227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_823 : BitVec 32 := 2#32
  let v1229 : BitVec 32 := Scalar.muli v5 c2_i32_823
  let v1230 : BitVec 32 := Scalar.addi v1228 v1229
  let c1_i32_13 : BitVec 32 := 1#32
  let v29 : BitVec 32 := Scalar.subi c1_i32_13 v8
  let v30 : BitVec 32 := Scalar.select v22 v8 v29
  let c1_i32_824 : BitVec 32 := 1#32
  let v1231 : BitVec 32 := Scalar.muli v30 c1_i32_824
  let v1232 : BitVec 32 := Scalar.addi v1230 v1231
  v1232.toNat
def k0_dev30 (d0 : Dev nD) : Nat :=
  let c0_i32_867 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_866 : BitVec 32 := 4#32
  let v1292 : BitVec 32 := Scalar.muli v24 c4_i32_866
  let v1293 : BitVec 32 := Scalar.addi c0_i32_867 v1292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_868 : BitVec 32 := 2#32
  let v1294 : BitVec 32 := Scalar.muli v5 c2_i32_868
  let v1295 : BitVec 32 := Scalar.addi v1293 v1294
  let c1_i32_11 : BitVec 32 := 1#32
  let v25 : BitVec 32 := Scalar.subi c1_i32_11 v8
  let v26 : BitVec 32 := Scalar.select v22 v25 v8
  let c1_i32_869 : BitVec 32 := 1#32
  let v1296 : BitVec 32 := Scalar.muli v26 c1_i32_869
  let v1297 : BitVec 32 := Scalar.addi v1295 v1296
  v1297.toNat
def k0_dev31 (d0 : Dev nD) : Nat :=
  let c0_i32_884 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_883 : BitVec 32 := 4#32
  let v1317 : BitVec 32 := Scalar.muli v28 c4_i32_883
  let v1318 : BitVec 32 := Scalar.addi c0_i32_884 v1317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_885 : BitVec 32 := 2#32
  let v1319 : BitVec 32 := Scalar.muli v5 c2_i32_885
  let v1320 : BitVec 32 := Scalar.addi v1318 v1319
  let c1_i32_13 : BitVec 32 := 1#32
  let v29 : BitVec 32 := Scalar.subi c1_i32_13 v8
  let v30 : BitVec 32 := Scalar.select v22 v8 v29
  let c1_i32_886 : BitVec 32 := 1#32
  let v1321 : BitVec 32 := Scalar.muli v30 c1_i32_886
  let v1322 : BitVec 32 := Scalar.addi v1320 v1321
  v1322.toNat
def k0_off11 (d0 : Dev nD) (c400_i32_897 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c0_i32_889 : BitVec 32 := 0#32
  let v1329 : BitVec 32 := Scalar.addi v11 c0_i32_889
  let c4_i32_890 : BitVec 32 := 4#32
  let c0_i32_891 : BitVec 32 := 0#32
  let v1330 : BitVec 1 := Scalar.cmpi .eq c4_i32_890 c0_i32_891
  let c1_i32_892 : BitVec 32 := 1#32
  let v1331 : BitVec 32 := Scalar.select v1330 c1_i32_892 c4_i32_890
  let v1332 : BitVec 32 := Scalar.remsi v1329 v1331
  let c0_i32_894 : BitVec 32 := 0#32
  let v1334 : BitVec 1 := Scalar.cmpi .slt v1332 c0_i32_894
  let c0_i32_895 : BitVec 32 := 0#32
  let v1335 : BitVec 1 := Scalar.cmpi .slt v1331 c0_i32_895
  let v1336 : BitVec 1 := Scalar.xori v1334 v1335
  let c0_i32_893 : BitVec 32 := 0#32
  let v1333 : BitVec 1 := Scalar.cmpi .ne v1332 c0_i32_893
  let v1337 : BitVec 1 := Scalar.andi v1336 v1333
  let v1338 : BitVec 32 := Scalar.addi v1332 v1331
  let v1339 : BitVec 32 := Scalar.select v1337 v1338 v1332
  let c1024_i32_896 : BitVec 32 := 1024#32
  let v1340 : BitVec 32 := Scalar.muli v1339 c1024_i32_896
  let v1341 : BitVec 32 := Scalar.addi v1340 c400_i32_897
  let v1356 : Index := Scalar.indexCast v1341
  let c0_911 : Index := 0#32
  ![v1356.toNat, 0]
def k0_dev32 (d0 : Dev nD) : Nat :=
  let c0_i32_929 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_928 : BitVec 32 := 4#32
  let v1382 : BitVec 32 := Scalar.muli v24 c4_i32_928
  let v1383 : BitVec 32 := Scalar.addi c0_i32_929 v1382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_930 : BitVec 32 := 2#32
  let v1384 : BitVec 32 := Scalar.muli v5 c2_i32_930
  let v1385 : BitVec 32 := Scalar.addi v1383 v1384
  let c1_i32_11 : BitVec 32 := 1#32
  let v25 : BitVec 32 := Scalar.subi c1_i32_11 v8
  let v26 : BitVec 32 := Scalar.select v22 v25 v8
  let c1_i32_931 : BitVec 32 := 1#32
  let v1386 : BitVec 32 := Scalar.muli v26 c1_i32_931
  let v1387 : BitVec 32 := Scalar.addi v1385 v1386
  v1387.toNat
def k0_dev33 (d0 : Dev nD) : Nat :=
  let c0_i32_946 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_945 : BitVec 32 := 4#32
  let v1407 : BitVec 32 := Scalar.muli v28 c4_i32_945
  let v1408 : BitVec 32 := Scalar.addi c0_i32_946 v1407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_947 : BitVec 32 := 2#32
  let v1409 : BitVec 32 := Scalar.muli v5 c2_i32_947
  let v1410 : BitVec 32 := Scalar.addi v1408 v1409
  let c1_i32_13 : BitVec 32 := 1#32
  let v29 : BitVec 32 := Scalar.subi c1_i32_13 v8
  let v30 : BitVec 32 := Scalar.select v22 v8 v29
  let c1_i32_948 : BitVec 32 := 1#32
  let v1411 : BitVec 32 := Scalar.muli v30 c1_i32_948
  let v1412 : BitVec 32 := Scalar.addi v1410 v1411
  v1412.toNat
def k0_off12 (d0 : Dev nD) (c472_i32_959 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c0_i32_951 : BitVec 32 := 0#32
  let v1419 : BitVec 32 := Scalar.addi v11 c0_i32_951
  let c4_i32_952 : BitVec 32 := 4#32
  let c0_i32_953 : BitVec 32 := 0#32
  let v1420 : BitVec 1 := Scalar.cmpi .eq c4_i32_952 c0_i32_953
  let c1_i32_954 : BitVec 32 := 1#32
  let v1421 : BitVec 32 := Scalar.select v1420 c1_i32_954 c4_i32_952
  let v1422 : BitVec 32 := Scalar.remsi v1419 v1421
  let c0_i32_956 : BitVec 32 := 0#32
  let v1424 : BitVec 1 := Scalar.cmpi .slt v1422 c0_i32_956
  let c0_i32_957 : BitVec 32 := 0#32
  let v1425 : BitVec 1 := Scalar.cmpi .slt v1421 c0_i32_957
  let v1426 : BitVec 1 := Scalar.xori v1424 v1425
  let c0_i32_955 : BitVec 32 := 0#32
  let v1423 : BitVec 1 := Scalar.cmpi .ne v1422 c0_i32_955
  let v1427 : BitVec 1 := Scalar.andi v1426 v1423
  let v1428 : BitVec 32 := Scalar.addi v1422 v1421
  let v1429 : BitVec 32 := Scalar.select v1427 v1428 v1422
  let c1024_i32_958 : BitVec 32 := 1024#32
  let v1430 : BitVec 32 := Scalar.muli v1429 c1024_i32_958
  let v1431 : BitVec 32 := Scalar.addi v1430 c472_i32_959
  let v1446 : Index := Scalar.indexCast v1431
  let c0_973 : Index := 0#32
  ![v1446.toNat, 0]
def k0_off12_at (r : Fin 6) : BitVec 32 :=
  if r.val < 3 then
    if r.val < 1 then
      472#32
    else
      if r.val < 2 then
        552#32
      else
        632#32
  else
    if r.val < 4 then
      784#32
    else
      if r.val < 5 then
        864#32
      else
        944#32
def k0_dev34 (d0 : Dev nD) : Nat :=
  let c0_i32_991 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_990 : BitVec 32 := 4#32
  let v1472 : BitVec 32 := Scalar.muli v24 c4_i32_990
  let v1473 : BitVec 32 := Scalar.addi c0_i32_991 v1472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_992 : BitVec 32 := 2#32
  let v1474 : BitVec 32 := Scalar.muli v5 c2_i32_992
  let v1475 : BitVec 32 := Scalar.addi v1473 v1474
  let c1_i32_11 : BitVec 32 := 1#32
  let v25 : BitVec 32 := Scalar.subi c1_i32_11 v8
  let v26 : BitVec 32 := Scalar.select v22 v25 v8
  let c1_i32_993 : BitVec 32 := 1#32
  let v1476 : BitVec 32 := Scalar.muli v26 c1_i32_993
  let v1477 : BitVec 32 := Scalar.addi v1475 v1476
  v1477.toNat
def k0_dev35 (d0 : Dev nD) : Nat :=
  let c0_i32_1008 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1007 : BitVec 32 := 4#32
  let v1497 : BitVec 32 := Scalar.muli v28 c4_i32_1007
  let v1498 : BitVec 32 := Scalar.addi c0_i32_1008 v1497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1009 : BitVec 32 := 2#32
  let v1499 : BitVec 32 := Scalar.muli v5 c2_i32_1009
  let v1500 : BitVec 32 := Scalar.addi v1498 v1499
  let c1_i32_13 : BitVec 32 := 1#32
  let v29 : BitVec 32 := Scalar.subi c1_i32_13 v8
  let v30 : BitVec 32 := Scalar.select v22 v8 v29
  let c1_i32_1010 : BitVec 32 := 1#32
  let v1501 : BitVec 32 := Scalar.muli v30 c1_i32_1010
  let v1502 : BitVec 32 := Scalar.addi v1500 v1501
  v1502.toNat
def k0_dev36 (d0 : Dev nD) : Nat :=
  let c0_i32_1053 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1052 : BitVec 32 := 4#32
  let v1562 : BitVec 32 := Scalar.muli v24 c4_i32_1052
  let v1563 : BitVec 32 := Scalar.addi c0_i32_1053 v1562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1054 : BitVec 32 := 2#32
  let v1564 : BitVec 32 := Scalar.muli v5 c2_i32_1054
  let v1565 : BitVec 32 := Scalar.addi v1563 v1564
  let c1_i32_11 : BitVec 32 := 1#32
  let v25 : BitVec 32 := Scalar.subi c1_i32_11 v8
  let v26 : BitVec 32 := Scalar.select v22 v25 v8
  let c1_i32_1055 : BitVec 32 := 1#32
  let v1566 : BitVec 32 := Scalar.muli v26 c1_i32_1055
  let v1567 : BitVec 32 := Scalar.addi v1565 v1566
  v1567.toNat
def k0_dev37 (d0 : Dev nD) : Nat :=
  let c0_i32_1070 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1069 : BitVec 32 := 4#32
  let v1587 : BitVec 32 := Scalar.muli v28 c4_i32_1069
  let v1588 : BitVec 32 := Scalar.addi c0_i32_1070 v1587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1071 : BitVec 32 := 2#32
  let v1589 : BitVec 32 := Scalar.muli v5 c2_i32_1071
  let v1590 : BitVec 32 := Scalar.addi v1588 v1589
  let c1_i32_13 : BitVec 32 := 1#32
  let v29 : BitVec 32 := Scalar.subi c1_i32_13 v8
  let v30 : BitVec 32 := Scalar.select v22 v8 v29
  let c1_i32_1072 : BitVec 32 := 1#32
  let v1591 : BitVec 32 := Scalar.muli v30 c1_i32_1072
  let v1592 : BitVec 32 := Scalar.addi v1590 v1591
  v1592.toNat
def k0_dev38 (d0 : Dev nD) : Nat :=
  let c0_i32_1115 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1114 : BitVec 32 := 4#32
  let v1652 : BitVec 32 := Scalar.muli v24 c4_i32_1114
  let v1653 : BitVec 32 := Scalar.addi c0_i32_1115 v1652
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1116 : BitVec 32 := 2#32
  let v1654 : BitVec 32 := Scalar.muli v5 c2_i32_1116
  let v1655 : BitVec 32 := Scalar.addi v1653 v1654
  let c1_i32_11 : BitVec 32 := 1#32
  let v25 : BitVec 32 := Scalar.subi c1_i32_11 v8
  let v26 : BitVec 32 := Scalar.select v22 v25 v8
  let c1_i32_1117 : BitVec 32 := 1#32
  let v1656 : BitVec 32 := Scalar.muli v26 c1_i32_1117
  let v1657 : BitVec 32 := Scalar.addi v1655 v1656
  v1657.toNat
def k0_dev39 (d0 : Dev nD) : Nat :=
  let c0_i32_1132 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1131 : BitVec 32 := 4#32
  let v1677 : BitVec 32 := Scalar.muli v28 c4_i32_1131
  let v1678 : BitVec 32 := Scalar.addi c0_i32_1132 v1677
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1133 : BitVec 32 := 2#32
  let v1679 : BitVec 32 := Scalar.muli v5 c2_i32_1133
  let v1680 : BitVec 32 := Scalar.addi v1678 v1679
  let c1_i32_13 : BitVec 32 := 1#32
  let v29 : BitVec 32 := Scalar.subi c1_i32_13 v8
  let v30 : BitVec 32 := Scalar.select v22 v8 v29
  let c1_i32_1134 : BitVec 32 := 1#32
  let v1681 : BitVec 32 := Scalar.muli v30 c1_i32_1134
  let v1682 : BitVec 32 := Scalar.addi v1680 v1681
  v1682.toNat
def k0_dev40 (d0 : Dev nD) : Nat :=
  let c0_i32_1166 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1165 : BitVec 32 := 4#32
  let v1725 : BitVec 32 := Scalar.muli v28 c4_i32_1165
  let v1726 : BitVec 32 := Scalar.addi c0_i32_1166 v1725
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1167 : BitVec 32 := 2#32
  let v1727 : BitVec 32 := Scalar.muli v5 c2_i32_1167
  let v1728 : BitVec 32 := Scalar.addi v1726 v1727
  let c1_i32_13 : BitVec 32 := 1#32
  let v29 : BitVec 32 := Scalar.subi c1_i32_13 v8
  let v30 : BitVec 32 := Scalar.select v22 v8 v29
  let c1_i32_1168 : BitVec 32 := 1#32
  let v1729 : BitVec 32 := Scalar.muli v30 c1_i32_1168
  let v1730 : BitVec 32 := Scalar.addi v1728 v1729
  v1730.toNat
def k0_dev41 (d0 : Dev nD) : Nat :=
  let c0_i32_1211 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1210 : BitVec 32 := 4#32
  let v1790 : BitVec 32 := Scalar.muli v24 c4_i32_1210
  let v1791 : BitVec 32 := Scalar.addi c0_i32_1211 v1790
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1212 : BitVec 32 := 2#32
  let v1792 : BitVec 32 := Scalar.muli v5 c2_i32_1212
  let v1793 : BitVec 32 := Scalar.addi v1791 v1792
  let c1_i32_11 : BitVec 32 := 1#32
  let v25 : BitVec 32 := Scalar.subi c1_i32_11 v8
  let v26 : BitVec 32 := Scalar.select v22 v25 v8
  let c1_i32_1213 : BitVec 32 := 1#32
  let v1794 : BitVec 32 := Scalar.muli v26 c1_i32_1213
  let v1795 : BitVec 32 := Scalar.addi v1793 v1794
  v1795.toNat
def k0_dev42 (d0 : Dev nD) : Nat :=
  let c0_i32_1228 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1227 : BitVec 32 := 4#32
  let v1815 : BitVec 32 := Scalar.muli v28 c4_i32_1227
  let v1816 : BitVec 32 := Scalar.addi c0_i32_1228 v1815
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1229 : BitVec 32 := 2#32
  let v1817 : BitVec 32 := Scalar.muli v5 c2_i32_1229
  let v1818 : BitVec 32 := Scalar.addi v1816 v1817
  let c1_i32_13 : BitVec 32 := 1#32
  let v29 : BitVec 32 := Scalar.subi c1_i32_13 v8
  let v30 : BitVec 32 := Scalar.select v22 v8 v29
  let c1_i32_1230 : BitVec 32 := 1#32
  let v1819 : BitVec 32 := Scalar.muli v30 c1_i32_1230
  let v1820 : BitVec 32 := Scalar.addi v1818 v1819
  v1820.toNat
def k0_dev43 (d0 : Dev nD) : Nat :=
  let c0_i32_1262 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1261 : BitVec 32 := 4#32
  let v1863 : BitVec 32 := Scalar.muli v28 c4_i32_1261
  let v1864 : BitVec 32 := Scalar.addi c0_i32_1262 v1863
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1263 : BitVec 32 := 2#32
  let v1865 : BitVec 32 := Scalar.muli v5 c2_i32_1263
  let v1866 : BitVec 32 := Scalar.addi v1864 v1865
  let c1_i32_13 : BitVec 32 := 1#32
  let v29 : BitVec 32 := Scalar.subi c1_i32_13 v8
  let v30 : BitVec 32 := Scalar.select v22 v8 v29
  let c1_i32_1264 : BitVec 32 := 1#32
  let v1867 : BitVec 32 := Scalar.muli v30 c1_i32_1264
  let v1868 : BitVec 32 := Scalar.addi v1866 v1867
  v1868.toNat
def k0_dev44 (d0 : Dev nD) : Nat :=
  let c0_i32_1307 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1306 : BitVec 32 := 4#32
  let v1928 : BitVec 32 := Scalar.muli v24 c4_i32_1306
  let v1929 : BitVec 32 := Scalar.addi c0_i32_1307 v1928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1308 : BitVec 32 := 2#32
  let v1930 : BitVec 32 := Scalar.muli v5 c2_i32_1308
  let v1931 : BitVec 32 := Scalar.addi v1929 v1930
  let c1_i32_11 : BitVec 32 := 1#32
  let v25 : BitVec 32 := Scalar.subi c1_i32_11 v8
  let v26 : BitVec 32 := Scalar.select v22 v25 v8
  let c1_i32_1309 : BitVec 32 := 1#32
  let v1932 : BitVec 32 := Scalar.muli v26 c1_i32_1309
  let v1933 : BitVec 32 := Scalar.addi v1931 v1932
  v1933.toNat
def k0_dev45 (d0 : Dev nD) : Nat :=
  let c0_i32_1324 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1323 : BitVec 32 := 4#32
  let v1953 : BitVec 32 := Scalar.muli v28 c4_i32_1323
  let v1954 : BitVec 32 := Scalar.addi c0_i32_1324 v1953
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1325 : BitVec 32 := 2#32
  let v1955 : BitVec 32 := Scalar.muli v5 c2_i32_1325
  let v1956 : BitVec 32 := Scalar.addi v1954 v1955
  let c1_i32_13 : BitVec 32 := 1#32
  let v29 : BitVec 32 := Scalar.subi c1_i32_13 v8
  let v30 : BitVec 32 := Scalar.select v22 v8 v29
  let c1_i32_1326 : BitVec 32 := 1#32
  let v1957 : BitVec 32 := Scalar.muli v30 c1_i32_1326
  let v1958 : BitVec 32 := Scalar.addi v1956 v1957
  v1958.toNat
def k0_dev46 (d0 : Dev nD) : Nat :=
  let c0_i32_1358 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1357 : BitVec 32 := 4#32
  let v2001 : BitVec 32 := Scalar.muli v28 c4_i32_1357
  let v2002 : BitVec 32 := Scalar.addi c0_i32_1358 v2001
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1359 : BitVec 32 := 2#32
  let v2003 : BitVec 32 := Scalar.muli v5 c2_i32_1359
  let v2004 : BitVec 32 := Scalar.addi v2002 v2003
  let c1_i32_13 : BitVec 32 := 1#32
  let v29 : BitVec 32 := Scalar.subi c1_i32_13 v8
  let v30 : BitVec 32 := Scalar.select v22 v8 v29
  let c1_i32_1360 : BitVec 32 := 1#32
  let v2005 : BitVec 32 := Scalar.muli v30 c1_i32_1360
  let v2006 : BitVec 32 := Scalar.addi v2004 v2005
  v2006.toNat
def k0_dev47 (d0 : Dev nD) : Nat :=
  let c0_i32_1403 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1402 : BitVec 32 := 4#32
  let v2066 : BitVec 32 := Scalar.muli v24 c4_i32_1402
  let v2067 : BitVec 32 := Scalar.addi c0_i32_1403 v2066
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1404 : BitVec 32 := 2#32
  let v2068 : BitVec 32 := Scalar.muli v5 c2_i32_1404
  let v2069 : BitVec 32 := Scalar.addi v2067 v2068
  let c1_i32_11 : BitVec 32 := 1#32
  let v25 : BitVec 32 := Scalar.subi c1_i32_11 v8
  let v26 : BitVec 32 := Scalar.select v22 v25 v8
  let c1_i32_1405 : BitVec 32 := 1#32
  let v2070 : BitVec 32 := Scalar.muli v26 c1_i32_1405
  let v2071 : BitVec 32 := Scalar.addi v2069 v2070
  v2071.toNat
def k0_dev48 (d0 : Dev nD) : Nat :=
  let c0_i32_1420 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1419 : BitVec 32 := 4#32
  let v2091 : BitVec 32 := Scalar.muli v28 c4_i32_1419
  let v2092 : BitVec 32 := Scalar.addi c0_i32_1420 v2091
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1421 : BitVec 32 := 2#32
  let v2093 : BitVec 32 := Scalar.muli v5 c2_i32_1421
  let v2094 : BitVec 32 := Scalar.addi v2092 v2093
  let c1_i32_13 : BitVec 32 := 1#32
  let v29 : BitVec 32 := Scalar.subi c1_i32_13 v8
  let v30 : BitVec 32 := Scalar.select v22 v8 v29
  let c1_i32_1422 : BitVec 32 := 1#32
  let v2095 : BitVec 32 := Scalar.muli v30 c1_i32_1422
  let v2096 : BitVec 32 := Scalar.addi v2094 v2095
  v2096.toNat
def k0_dev49 (d0 : Dev nD) : Nat :=
  let c0_i32_1454 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1453 : BitVec 32 := 4#32
  let v2139 : BitVec 32 := Scalar.muli v28 c4_i32_1453
  let v2140 : BitVec 32 := Scalar.addi c0_i32_1454 v2139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1455 : BitVec 32 := 2#32
  let v2141 : BitVec 32 := Scalar.muli v5 c2_i32_1455
  let v2142 : BitVec 32 := Scalar.addi v2140 v2141
  let c1_i32_13 : BitVec 32 := 1#32
  let v29 : BitVec 32 := Scalar.subi c1_i32_13 v8
  let v30 : BitVec 32 := Scalar.select v22 v8 v29
  let c1_i32_1456 : BitVec 32 := 1#32
  let v2143 : BitVec 32 := Scalar.muli v30 c1_i32_1456
  let v2144 : BitVec 32 := Scalar.addi v2142 v2143
  v2144.toNat
def k0_dev50 (d0 : Dev nD) : Nat :=
  let c0_i32_1488 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1487 : BitVec 32 := 4#32
  let v2187 : BitVec 32 := Scalar.muli v24 c4_i32_1487
  let v2188 : BitVec 32 := Scalar.addi c0_i32_1488 v2187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1489 : BitVec 32 := 2#32
  let v2189 : BitVec 32 := Scalar.muli v5 c2_i32_1489
  let v2190 : BitVec 32 := Scalar.addi v2188 v2189
  let c1_i32_11 : BitVec 32 := 1#32
  let v25 : BitVec 32 := Scalar.subi c1_i32_11 v8
  let v26 : BitVec 32 := Scalar.select v22 v25 v8
  let c1_i32_1490 : BitVec 32 := 1#32
  let v2191 : BitVec 32 := Scalar.muli v26 c1_i32_1490
  let v2192 : BitVec 32 := Scalar.addi v2190 v2191
  v2192.toNat
def k0_dev51 (d0 : Dev nD) : Nat :=
  let c0_i32_1533 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1532 : BitVec 32 := 4#32
  let v2252 : BitVec 32 := Scalar.muli v24 c4_i32_1532
  let v2253 : BitVec 32 := Scalar.addi c0_i32_1533 v2252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1534 : BitVec 32 := 2#32
  let v2254 : BitVec 32 := Scalar.muli v5 c2_i32_1534
  let v2255 : BitVec 32 := Scalar.addi v2253 v2254
  let c1_i32_11 : BitVec 32 := 1#32
  let v25 : BitVec 32 := Scalar.subi c1_i32_11 v8
  let v26 : BitVec 32 := Scalar.select v22 v25 v8
  let c1_i32_1535 : BitVec 32 := 1#32
  let v2256 : BitVec 32 := Scalar.muli v26 c1_i32_1535
  let v2257 : BitVec 32 := Scalar.addi v2255 v2256
  v2257.toNat
def k0_dev52 (d0 : Dev nD) : Nat :=
  let c0_i32_1550 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_1549 : BitVec 32 := 4#32
  let v2277 : BitVec 32 := Scalar.muli v28 c4_i32_1549
  let v2278 : BitVec 32 := Scalar.addi c0_i32_1550 v2277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1551 : BitVec 32 := 2#32
  let v2279 : BitVec 32 := Scalar.muli v5 c2_i32_1551
  let v2280 : BitVec 32 := Scalar.addi v2278 v2279
  let c1_i32_13 : BitVec 32 := 1#32
  let v29 : BitVec 32 := Scalar.subi c1_i32_13 v8
  let v30 : BitVec 32 := Scalar.select v22 v8 v29
  let c1_i32_1552 : BitVec 32 := 1#32
  let v2281 : BitVec 32 := Scalar.muli v30 c1_i32_1552
  let v2282 : BitVec 32 := Scalar.addi v2280 v2281
  v2282.toNat
def k0_dev53 (d0 : Dev nD) : Nat :=
  let c0_i32_1584 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1583 : BitVec 32 := 4#32
  let v2325 : BitVec 32 := Scalar.muli v24 c4_i32_1583
  let v2326 : BitVec 32 := Scalar.addi c0_i32_1584 v2325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1585 : BitVec 32 := 2#32
  let v2327 : BitVec 32 := Scalar.muli v5 c2_i32_1585
  let v2328 : BitVec 32 := Scalar.addi v2326 v2327
  let c1_i32_11 : BitVec 32 := 1#32
  let v25 : BitVec 32 := Scalar.subi c1_i32_11 v8
  let v26 : BitVec 32 := Scalar.select v22 v25 v8
  let c1_i32_1586 : BitVec 32 := 1#32
  let v2329 : BitVec 32 := Scalar.muli v26 c1_i32_1586
  let v2330 : BitVec 32 := Scalar.addi v2328 v2329
  v2330.toNat
def k0_dev54 (d0 : Dev nD) : Nat :=
  let c0_i32_1618 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1617 : BitVec 32 := 4#32
  let v2373 : BitVec 32 := Scalar.muli v24 c4_i32_1617
  let v2374 : BitVec 32 := Scalar.addi c0_i32_1618 v2373
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1619 : BitVec 32 := 2#32
  let v2375 : BitVec 32 := Scalar.muli v5 c2_i32_1619
  let v2376 : BitVec 32 := Scalar.addi v2374 v2375
  let c1_i32_11 : BitVec 32 := 1#32
  let v25 : BitVec 32 := Scalar.subi c1_i32_11 v8
  let v26 : BitVec 32 := Scalar.select v22 v25 v8
  let c1_i32_1620 : BitVec 32 := 1#32
  let v2377 : BitVec 32 := Scalar.muli v26 c1_i32_1620
  let v2378 : BitVec 32 := Scalar.addi v2376 v2377
  v2378.toNat
def k0_dev55 (d0 : Dev nD) : Nat :=
  let c0_i32_1652 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_1651 : BitVec 32 := 4#32
  let v2421 : BitVec 32 := Scalar.muli v24 c4_i32_1651
  let v2422 : BitVec 32 := Scalar.addi c0_i32_1652 v2421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1653 : BitVec 32 := 2#32
  let v2423 : BitVec 32 := Scalar.muli v5 c2_i32_1653
  let v2424 : BitVec 32 := Scalar.addi v2422 v2423
  let c1_i32_11 : BitVec 32 := 1#32
  let v25 : BitVec 32 := Scalar.subi c1_i32_11 v8
  let v26 : BitVec 32 := Scalar.select v22 v25 v8
  let c1_i32_1654 : BitVec 32 := 1#32
  let v2425 : BitVec 32 := Scalar.muli v26 c1_i32_1654
  let v2426 : BitVec 32 := Scalar.addi v2424 v2425
  v2426.toNat
def k0_dev56 (d0 : Dev nD) : Nat :=
  let c0_i32_2465_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2464_r0 : BitVec 32 := 4#32
  let v3440_r0 : BitVec 32 := Scalar.muli v2 c4_i32_2464_r0
  let v3441_r0 : BitVec 32 := Scalar.addi c0_i32_2465_r0 v3440_r0
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_14 v5
  let c2_i32_2466_r0 : BitVec 32 := 2#32
  let v3442_r0 : BitVec 32 := Scalar.muli v31 c2_i32_2466_r0
  let v3443_r0 : BitVec 32 := Scalar.addi v3441_r0 v3442_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2467_r0 : BitVec 32 := 1#32
  let v3444_r0 : BitVec 32 := Scalar.muli v8 c1_i32_2467_r0
  let v3445_r0 : BitVec 32 := Scalar.addi v3443_r0 v3444_r0
  v3445_r0.toNat
def k0_dev57 (d0 : Dev nD) : Nat :=
  let c0_i32_2470_r0 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_10 : BitVec 32 := 1#32
  let v23 : BitVec 32 := Scalar.subi c1_i32_10 v2
  let v24 : BitVec 32 := Scalar.select v22 v2 v23
  let c4_i32_2469_r0 : BitVec 32 := 4#32
  let v3446_r0 : BitVec 32 := Scalar.muli v24 c4_i32_2469_r0
  let v3447_r0 : BitVec 32 := Scalar.addi c0_i32_2470_r0 v3446_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2471_r0 : BitVec 32 := 2#32
  let v3448_r0 : BitVec 32 := Scalar.muli v5 c2_i32_2471_r0
  let v3449_r0 : BitVec 32 := Scalar.addi v3447_r0 v3448_r0
  let c1_i32_11 : BitVec 32 := 1#32
  let v25 : BitVec 32 := Scalar.subi c1_i32_11 v8
  let v26 : BitVec 32 := Scalar.select v22 v25 v8
  let c1_i32_2472_r0 : BitVec 32 := 1#32
  let v3450_r0 : BitVec 32 := Scalar.muli v26 c1_i32_2472_r0
  let v3451_r0 : BitVec 32 := Scalar.addi v3449_r0 v3450_r0
  v3451_r0.toNat
def k0_dev58 (d0 : Dev nD) : Nat :=
  let c0_i32_2475_r0 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.xori v2 v8
  let v11 : BitVec 32 := Scalar.addi v9 v10
  let c2_i32_4 : BitVec 32 := 2#32
  let c0_i32 : BitVec 32 := 0#32
  let v12 : BitVec 1 := Scalar.cmpi .eq c2_i32_4 c0_i32
  let c1_i32_5 : BitVec 32 := 1#32
  let v13 : BitVec 32 := Scalar.select v12 c1_i32_5 c2_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_9 : BitVec 32 := 0#32
  let v22 : BitVec 1 := Scalar.cmpi .eq v21 c0_i32_9
  let c1_i32_12 : BitVec 32 := 1#32
  let v27 : BitVec 32 := Scalar.subi c1_i32_12 v2
  let v28 : BitVec 32 := Scalar.select v22 v27 v2
  let c4_i32_2474_r0 : BitVec 32 := 4#32
  let v3452_r0 : BitVec 32 := Scalar.muli v28 c4_i32_2474_r0
  let v3453_r0 : BitVec 32 := Scalar.addi c0_i32_2475_r0 v3452_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2476_r0 : BitVec 32 := 2#32
  let v3454_r0 : BitVec 32 := Scalar.muli v5 c2_i32_2476_r0
  let v3455_r0 : BitVec 32 := Scalar.addi v3453_r0 v3454_r0
  let c1_i32_13 : BitVec 32 := 1#32
  let v29 : BitVec 32 := Scalar.subi c1_i32_13 v8
  let v30 : BitVec 32 := Scalar.select v22 v8 v29
  let c1_i32_2477_r0 : BitVec 32 := 1#32
  let v3456_r0 : BitVec 32 := Scalar.muli v30 c1_i32_2477_r0
  let v3457_r0 : BitVec 32 := Scalar.addi v3455_r0 v3456_r0
  v3457_r0.toNat
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Chunks.lean ====
/-
The mesh and the pieces the kernel moves.

Eight devices, `d = 4 x + 2 y + z`. The four devices of one `y` form a ring; `pos d` is the place of `d` on it, `nxt`
and `prv` its neighbours there, `mate` the device that differs in `y` alone. The 4096 rows of the array are four
quarters of 1024 rows, each cut into thirteen pieces; a piece is named relative to the device that moves it, `(q, j)`
standing for piece `j` of quarter `pos d + q` modulo four. The tables `off` and `offL` list the printed offset chains
of the pieces; `off_eq` and `offL_eq` give them in closed form.
-/
module

public import proofs.«01_k».proof.Proof.Gen.KernelIdeal

@[expose] public section

noncomputable section

namespace Cert.AllReduce

open Cert.KernelIdeal Cert.KernelIdeal.Gen
open Idealize.ShloMosaic Idealize.SL.Sem

/-! ## Neighbours -/

/-- The place of a device on its ring. -/
def pos (d : Dev nD) : Fin 4 := ![0, 1, 0, 1, 3, 2, 3, 2] d
/-- The next device on the ring. -/
def nxt (d : Dev nD) : Dev nD := ![1, 5, 3, 7, 0, 4, 2, 6] d
/-- The previous device on the ring. -/
def prv (d : Dev nD) : Dev nD := ![4, 0, 6, 2, 5, 1, 7, 3] d
/-- The device with the other `y`. -/
def mate (d : Dev nD) : Dev nD := ![2, 3, 0, 1, 6, 7, 4, 5] d

theorem nxt_prv (d : Dev nD) : nxt (prv d) = d := by revert d; decide
theorem prv_nxt (d : Dev nD) : prv (nxt d) = d := by revert d; decide
theorem mate_mate (d : Dev nD) : mate (mate d) = d := by revert d; decide

/-- Where the pieces of a ring direction go: `false` clockwise, to the next device; `true` the other way. -/
def tgt (b : Bool) (d : Dev nD) : Dev nD := if b then prv d else nxt d

theorem tgt_not_tgt (b : Bool) (d : Dev nD) : tgt (!b) (tgt b d) = d := by revert b d; decide
theorem tgt_tgt_not (b : Bool) (d : Dev nD) : tgt b (tgt (!b) d) = d := by revert b d; decide

/-! ## Pieces -/

/-- A piece: a quarter and one of its thirteen parts. -/
abbrev Ch : Type := Fin 4 × Fin 13

/-- How many rows the `j`-th part of a quarter has. -/
def rows : Fin 13 → ℕ
  | 0 => 32 | 1 => 64 | 2 => 96 | 3 => 104 | 4 => 104
  | 5 => 72 | 6 => 80 | 7 => 80 | 8 => 80
  | 9 => 72 | 10 => 80 | 11 => 80 | 12 => 80

/-- Where it begins in the quarter. -/
def from0 : Fin 13 → ℕ := ![0, 32, 96, 192, 296, 400, 472, 552, 632, 712, 784, 864, 944]

/-- The word a quarter offset is printed as. -/
def qw : Fin 4 → BitVec 32
  | 0 => 0#32 | 1 => 1#32 | 2 => 2#32 | 3 => 3#32

/-- The offsets of a piece as the transfers and waits name them. -/
def off (d : Dev nD) (q : Fin 4) : Fin 13 → (Fin 2 → ℕ)
  | 0 => k0_off1 d (qw q)
  | 1 => k0_off2 d (qw q)
  | 2 => k0_off3 d (qw q)
  | 3 => k0_off4 d (qw q) 192#32
  | 4 => k0_off4 d (qw q) 296#32
  | 5 => k0_off5 d (qw q) 400#32
  | 6 => k0_off6 d (qw q) 472#32
  | 7 => k0_off6 d (qw q) 552#32
  | 8 => k0_off6 d (qw q) 632#32
  | 9 => k0_off5 d (qw q) 712#32
  | 10 => k0_off6 d (qw q) 784#32
  | 11 => k0_off6 d (qw q) 864#32
  | 12 => k0_off6 d (qw q) 944#32

/-- The same as the loads and stores of the addition name them. -/
def offL (d : Dev nD) (q : Fin 4) : Fin 13 → (Fin 2 → ℕ)
  | 0 => k0_off7 d (qw q)
  | 1 => k0_off8 d (qw q)
  | 2 => k0_off9 d (qw q)
  | 3 => k0_off10 d (qw q) 192#32
  | 4 => k0_off10 d (qw q) 296#32
  | 5 => k0_off11 d 400#32
  | 6 => k0_off12 d 472#32
  | 7 => k0_off12 d 552#32
  | 8 => k0_off12 d 632#32
  | 9 => k0_off11 d 712#32
  | 10 => k0_off12 d 784#32
  | 11 => k0_off12 d 864#32
  | 12 => k0_off12 d 944#32

/-- The quarter, counted from row 0, that `q` names at `d`. -/
def quart (d : Dev nD) (q : Fin 4) : Fin 4 := pos d + q

/-- The sizes of a piece. -/
abbrev szs (j : Fin 13) : Fin 2 → ℕ := ![rows j, 1024]

/-- The first row of a piece, its quarter counted from row 0. -/
def lo (a : Ch) : ℕ := 1024 * a.1.val + from0 a.2

theorem off_row (d : Dev nD) (q : Fin 4) (j : Fin 13) : off d q j 0 = lo (quart d q, j) := by
  revert d q j; decide +kernel
theorem off_col (d : Dev nD) (q : Fin 4) (j : Fin 13) : off d q j 1 = 0 := by
  revert d q j; decide +kernel

theorem off_eq (d : Dev nD) (q : Fin 4) (j : Fin 13) : off d q j = ![lo (quart d q, j), 0] := by
  funext a
  fin_cases a
  · exact off_row d q j
  · exact off_col d q j

theorem lo_fits (a : Ch) : lo a + rows a.2 ≤ 4096 := by revert a; decide +kernel

/-- A piece lies inside the array. -/
theorem off_inb (d : Dev nD) (q : Fin 4) (j : Fin 13) : ∀ a, off d q j a + szs j a ≤ S4096x1024.size a := by
  intro a
  rw [off_eq]
  fin_cases a
  · exact lo_fits (quart d q, j)
  · exact le_rfl

/-! ## The streams -/

/-- The pieces exchanged with the mate. -/
def yS (c : Fin 18) : Ch := if h : c.val < 13 then (0, ⟨c.val, h⟩) else (2, ⟨c.val - 13, by omega⟩)

/-- The part of the `c`-th piece of a ring direction: its last four are the parts passed on. -/
def rJ (b : Bool) (c : Fin 17) : Fin 13 :=
  if h : c.val < 13 then ⟨c.val, h⟩ else ⟨(if b then 5 else 9) + (c.val - 13), by cases b <;> simp <;> omega⟩

/-- The pieces sent in a ring direction, named by the sender. -/
def rO (b : Bool) (c : Fin 17) : Ch := (if c.val < 13 then 0 else if b then 1 else 3, rJ b c)

/-- The pieces received in a ring direction, named by the receiver. -/
def rI (b : Bool) (c : Fin 17) : Ch := (if c.val < 13 then (if b then 1 else 3) else 2, rJ b c)

/-- A piece with its quarter counted from row 0. -/
def ab (d : Dev nD) (i : Ch) : Ch := (quart d i.1, i.2)

/-- What a device sends is what its target receives. -/
theorem ab_tgt (b : Bool) (d : Dev nD) (c : Fin 17) : ab (tgt b d) (rI b c) = ab d (rO b c) := by
  revert b d c; decide +kernel
theorem ab_mate (d : Dev nD) (i : Ch) : ab (mate d) i = ab d i := by
  revert d i; decide +kernel

theorem offL_eq (d : Dev nD) (c : Fin 18) : offL d (yS c).1 (yS c).2 = off d (yS c).1 (yS c).2 := by
  have h : ∀ (d : Dev nD) (c : Fin 18) (a : Fin 2), offL d (yS c).1 (yS c).2 a = off d (yS c).1 (yS c).2 a := by decide +kernel
  exact funext (h d c)

theorem offL_inb (d : Dev nD) (c : Fin 18) :
    ∀ a, offL d (yS c).1 (yS c).2 a + szs (yS c).2 a ≤ S4096x1024.size a := by
  rw [offL_eq]; exact off_inb d _ _

/-! ## The devices the printed chains name -/

/-- The target of the `c`-th transfer to the mate. -/
def devY (d : Dev nD) : Fin 18 → Dev nD := ![
    ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩,
    ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩,
    ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩]

/-- The target of the `c`-th transfer clockwise. -/
def devC (d : Dev nD) : Fin 17 → Dev nD := ![
    ⟨k0_dev22 d, k0_dev22_lt d⟩, ⟨k0_dev24 d, k0_dev24_lt d⟩, ⟨k0_dev26 d, k0_dev26_lt d⟩,
    ⟨k0_dev28 d, k0_dev28_lt d⟩, ⟨k0_dev30 d, k0_dev30_lt d⟩, ⟨k0_dev32 d, k0_dev32_lt d⟩,
    ⟨k0_dev34 d, k0_dev34_lt d⟩, ⟨k0_dev36 d, k0_dev36_lt d⟩, ⟨k0_dev38 d, k0_dev38_lt d⟩,
    ⟨k0_dev41 d, k0_dev41_lt d⟩, ⟨k0_dev44 d, k0_dev44_lt d⟩, ⟨k0_dev47 d, k0_dev47_lt d⟩,
    ⟨k0_dev51 d, k0_dev51_lt d⟩, ⟨k0_dev50 d, k0_dev50_lt d⟩, ⟨k0_dev53 d, k0_dev53_lt d⟩,
    ⟨k0_dev54 d, k0_dev54_lt d⟩, ⟨k0_dev55 d, k0_dev55_lt d⟩]

/-- The target of the `c`-th transfer the other way. -/
def devA (d : Dev nD) : Fin 17 → Dev nD := ![
    ⟨k0_dev23 d, k0_dev23_lt d⟩, ⟨k0_dev25 d, k0_dev25_lt d⟩, ⟨k0_dev27 d, k0_dev27_lt d⟩,
    ⟨k0_dev29 d, k0_dev29_lt d⟩, ⟨k0_dev31 d, k0_dev31_lt d⟩, ⟨k0_dev33 d, k0_dev33_lt d⟩,
    ⟨k0_dev35 d, k0_dev35_lt d⟩, ⟨k0_dev37 d, k0_dev37_lt d⟩, ⟨k0_dev39 d, k0_dev39_lt d⟩,
    ⟨k0_dev42 d, k0_dev42_lt d⟩, ⟨k0_dev45 d, k0_dev45_lt d⟩, ⟨k0_dev48 d, k0_dev48_lt d⟩,
    ⟨k0_dev52 d, k0_dev52_lt d⟩, ⟨k0_dev40 d, k0_dev40_lt d⟩, ⟨k0_dev43 d, k0_dev43_lt d⟩,
    ⟨k0_dev46 d, k0_dev46_lt d⟩, ⟨k0_dev49 d, k0_dev49_lt d⟩]

/-- The target of the `c`-th transfer of a ring direction. -/
def devR (d : Dev nD) : Bool → Fin 17 → Dev nD
  | false => devC d
  | true => devA d

/-- The devices the first barrier signals. -/
def devB (d : Dev nD) : Fin 3 → Dev nD
  | 0 => ⟨k0_dev1 d, k0_dev1_lt d⟩ | 1 => ⟨k0_dev2 d, k0_dev2_lt d⟩ | 2 => ⟨k0_dev3 d, k0_dev3_lt d⟩
/-- The devices the second barrier signals. -/
def devE (d : Dev nD) : Fin 3 → Dev nD
  | 0 => ⟨k0_dev56 d, k0_dev56_lt d⟩ | 1 => ⟨k0_dev57 d, k0_dev57_lt d⟩ | 2 => ⟨k0_dev58 d, k0_dev58_lt d⟩

/-- The three devices a barrier signals, in order. -/
def nb (d : Dev nD) : Fin 3 → Dev nD := ![mate d, nxt d, prv d]

theorem devY_eq (d : Dev nD) (c : Fin 18) : devY d c = mate d := by revert d c; decide +kernel
theorem devR_eq (d : Dev nD) (b : Bool) (c : Fin 17) : devR d b c = tgt b d := by revert d b c; decide +kernel
theorem devB_eq (d : Dev nD) (t : Fin 3) : devB d t = nb d t := by revert d t; decide +kernel
theorem devE_eq (d : Dev nD) (t : Fin 3) : devE d t = nb d t := by revert d t; decide +kernel

end Cert.AllReduce

end
-- ==== Proof.Ops.lean ====
/-
The kernel's body as a list of operations.

`Op` names each memory operation of the body by what it does and to which piece; `interp` is the operation as the
kernel prints it, `runOps` a list of them in sequence, `ops` the kernel's list. `body_eq` says that the printed body is
that list, preceded by the read of the device's number.
-/
module

public import proofs.«01_k».proof.Proof.Chunks
public import Idealize.ShloMosaic.Lib.Pipeline.Regions

@[expose] public section

noncomputable section

namespace Cert.AllReduce

open Cert.KernelIdeal Cert.KernelIdeal.Gen
open Idealize.ShloMosaic Idealize.SL.Sem

variable {F : FTy → Type} [FloatOps F]

/-- What the body is called with: the input, the result, the buffer the mate writes, the buffer the input is read
    into; the semaphore arrays of the transfers; the second barrier's semaphore. -/
structure Args where
  x : Memref sig .tc .hbm S4096x1024 .f32
  out : Memref sig .tc .hbm S4096x1024 .f32
  cm : Memref sig .tc .vmem S4096x1024 .f32
  xv : Memref sig .tc .vmem S4096x1024 .f32
  ys : DmaSems sig S18
  yr : DmaSems sig S18
  cs : DmaSems sig S17
  cr : DmaSems sig S17
  as_ : DmaSems sig S17
  ar : DmaSems sig S17
  xin : DmaSems sig S18
  od : DmaSems sig S18
  sb : Sems sig S_

/-- The semaphores a ring direction's senders wait on. -/
def Args.rs (A : Args) : Bool → DmaSems sig S17
  | false => A.cs | true => A.as_
/-- The semaphores a ring direction's receivers wait on. -/
def Args.rr (A : Args) : Bool → DmaSems sig S17
  | false => A.cr | true => A.ar

theorem inb18 (c : Fin 18) : ∀ a, (![c.val] : Fin 1 → ℕ) a + S1.size a ≤ S18.size a := by revert c; decide
theorem inb17 (c : Fin 17) : ∀ a, (![c.val] : Fin 1 → ℕ) a + S1.size a ≤ S17.size a := by revert c; decide

/-- The `c`-th semaphore of an array of eighteen. -/
def s18 (a : DmaSems sig S18) (c : Fin 18) : DmaSem sig :=
  ((a.slice (Rect.unit (s := S18) ![c.val] S1.size (inb18 c))).squeeze S_ squeezes_S1_S_).sem
/-- The `c`-th semaphore of an array of seventeen. -/
def s17 (a : DmaSems sig S17) (c : Fin 17) : DmaSem sig :=
  ((a.slice (Rect.unit (s := S17) ![c.val] S1.size (inb17 c))).squeeze S_ squeezes_S1_S_).sem

/-- A piece of a buffer, as the transfers and waits of device `d` name it. -/
abbrev pc {sp : Space} (m : Memref sig .tc sp S4096x1024 .f32) (d : Dev nD) (i : Ch) : Memref sig .tc sp ⟨2, szs i.2⟩ .f32 :=
  m.slice (Rect.unit (s := S4096x1024) (off d i.1 i.2) (szs i.2) (off_inb d i.1 i.2)) (fun _ => rfl)

/-- The rectangle of a piece exchanged with the mate, as loads and stores name it. -/
abbrev rl (d : Dev nD) (c : Fin 18) : Rect S4096x1024 :=
  Rect.unit (s := S4096x1024) (offL d (yS c).1 (yS c).2) (szs (yS c).2) (offL_inb d c)

/-- The operations. -/
inductive Op
  /-- start reading piece `c` of the input -/
  | xin (c : Fin 18)
  /-- signal a neighbour on the first barrier -/
  | sig (t : Fin 3)
  /-- wait on the first barrier -/
  | bar
  /-- wait for piece `c` of the input -/
  | xw (c : Fin 18)
  /-- start sending it to the mate -/
  | ys (c : Fin 18)
  /-- wait for the mate's piece `c` -/
  | yr (c : Fin 18)
  /-- wait for the mate to have got piece `c` -/
  | yw (c : Fin 18)
  /-- add the mate's piece `c` to one's own -/
  | add (c : Fin 18)
  /-- start writing the sum to the result -/
  | od (c : Fin 18)
  /-- start sending piece `c` along the ring -/
  | rs (b : Bool) (c : Fin 17)
  /-- wait for piece `c` along the ring -/
  | rw (b : Bool) (c : Fin 17)
  /-- wait for piece `c` to have been sent along the ring -/
  | rd (b : Bool) (c : Fin 17)
  /-- wait for piece `c` to have been written to the result -/
  | ow (c : Fin 18)
  /-- signal a neighbour on the second barrier -/
  | sig2 (t : Fin 3)
  /-- wait on the second barrier -/
  | bar2
  deriving DecidableEq

theorem pos18 (c : Fin 18) : 0 < (⟨2, szs (yS c).2⟩ : Shape).numel := by revert c; decide +kernel

/-- An operation as the kernel prints it. -/
def interp (A : Args) (d : Dev nD) : Op → Prog (TpuEff nD τ sig (Elt F) Λ₀ .tc) PUnit
  | .xin c => Prog.lift (.enqueueDma (pc A.x d (yS c)) (.here (pc A.xv d (yS c))) (.dma (s18 A.xin c))
      (View.wordExact_bits rfl) (View.wordExact_bits rfl) ⟨Or.inl rfl, trivial⟩)
  | .sig t => semSignalWord (devB d t) (SemArray.scalar (d := S_.size) (sig.barrier 0 rfl)).sem 1#32
  | .bar => semWaitWord (SemArray.scalar (d := S_.size) (sig.barrier 0 rfl)).sem 3#32
  | .xw c => Prog.lift (.waitDma2 (s18 A.xin c) (pc A.x d (yS c)) (pc A.xv d (yS c))
      (View.wordExact_bits rfl) (View.wordExact_bits rfl))
  | .ys c => Prog.lift (.enqueueDma (pc A.xv d (yS c)) (.remote (Dev.tc (devY d c)) (pc A.cm d (yS c)) (.dma (s18 A.ys c)))
      (.dma (s18 A.yr c)) (View.wordExact_bits rfl) (View.wordExact_bits rfl) ⟨⟨rfl, Or.inl rfl⟩, trivial⟩)
  | .yr c => Prog.lift (.waitDma2 (s18 A.yr c) (pc A.xv d (yS c)) (pc A.cm d (yS c))
      (View.wordExact_bits rfl) (View.wordExact_bits rfl))
  | .yw c => Prog.lift (.waitDma2 (s18 A.ys c) (pc A.cm d (yS c)) (pc A.xv d (yS c))
      (View.wordExact_bits rfl) (View.wordExact_bits rfl))
  | .add c => do
      let v : Vec F ⟨2, szs (yS c).2⟩ .f32 ← Prog.lift (.load A.xv (rl d c).toLoadRect (View.loadsAt_vmem (pos18 c)))
      let w : Vec F ⟨2, szs (yS c).2⟩ .f32 ← Prog.lift (.load A.cm (rl d c).toLoadRect (View.loadsAt_vmem (pos18 c)))
      let _ ← Prog.lift (.load A.xv (rl d c).toLoadRect (View.loadsAt_vmem (pos18 c)))
      Prog.lift (.store A.xv (rl d c) (shapeCast ⟨2, szs (yS c).2⟩ (addf v w) rfl) Finset.univ
        (View.stores_vmem_bits_univ (pos18 c) rfl) (.inl rfl))
  | .od c => Prog.lift (.enqueueDma (pc A.xv d (yS c)) (.here (pc A.out d (yS c))) (.dma (s18 A.od c))
      (View.wordExact_bits rfl) (View.wordExact_bits rfl) ⟨Or.inl rfl, trivial⟩)
  | .rs b c =>
      if c.val < 13 then
        Prog.lift (.enqueueDma (pc A.xv d (rO b c)) (.remote (Dev.tc (devR d b c)) (pc A.out d (rO b c)) (.dma (s17 (A.rs b) c)))
          (.dma (s17 (A.rr b) c)) (View.wordExact_bits rfl) (View.wordExact_bits rfl) ⟨⟨rfl, Or.inl rfl⟩, trivial⟩)
      else
        Prog.lift (.enqueueDma (pc A.out d (rO b c)) (.remote (Dev.tc (devR d b c)) (pc A.out d (rO b c)) (.dma (s17 (A.rs b) c)))
          (.dma (s17 (A.rr b) c)) (View.wordExact_bits rfl) (View.wordExact_bits rfl) ⟨⟨rfl, Or.inl rfl⟩, trivial⟩)
  | .rw b c => Prog.lift (.waitDma2 (s17 (A.rr b) c) (pc A.out d (rI b c)) (pc A.out d (rI b c))
      (View.wordExact_bits rfl) (View.wordExact_bits rfl))
  | .rd b c =>
      if c.val < 13 then
        Prog.lift (.waitDma2 (s17 (A.rs b) c) (pc A.out d (rO b c)) (pc A.xv d (rO b c))
          (View.wordExact_bits rfl) (View.wordExact_bits rfl))
      else
        Prog.lift (.waitDma2 (s17 (A.rs b) c) (pc A.out d (rO b c)) (pc A.out d (rO b c))
          (View.wordExact_bits rfl) (View.wordExact_bits rfl))
  | .ow c => Prog.lift (.waitDma2 (s18 A.od c) (pc A.xv d (yS c)) (pc A.out d (yS c))
      (View.wordExact_bits rfl) (View.wordExact_bits rfl))
  | .sig2 t => semSignalWord (devE d t) A.sb.sem 1#32
  | .bar2 => semWaitWord A.sb.sem 3#32

/-- A list of operations, in sequence. -/
def runOps (A : Args) (d : Dev nD) : List Op → Prog (TpuEff nD τ sig (Elt F) Λ₀ .tc) PUnit
  | [] => pure ⟨⟩
  | o :: os => interp A d o >>= fun _ => runOps A d os

/-- Zero to seventeen. -/
abbrev upto18 : List (Fin 18) := [0, 1, 2, 3, 4, 5, 6, 7, 8, 9, 10, 11, 12, 13, 14, 15, 16, 17]
/-- Zero to sixteen. -/
abbrev upto17 : List (Fin 17) := [0, 1, 2, 3, 4, 5, 6, 7, 8, 9, 10, 11, 12, 13, 14, 15, 16]

/-- The addition of a piece and the start of its way to the result. -/
abbrev fold (c : Fin 18) : List Op := [.yr c, .yw c, .add c, .od c]
/-- What follows for a piece that also goes around the ring both ways. -/
abbrev ring (c : Fin 18) (r : Fin 17) : List Op := fold c ++ [.rs false r, .rs true r]
/-- A piece passed on. -/
abbrev fwd (b : Bool) (i c : Fin 17) : List Op := [.rw b i, .rs b c]

/-- The kernel's operations. -/
def ops : List Op :=
  upto18.map .xin ++ ([.sig 0, .sig 1, .sig 2, .bar] ++ (upto18.flatMap (fun c => [.xw c, .ys c]) ++
  (ring 0 0 ++ (ring 1 1 ++ (ring 2 2 ++ (ring 3 3 ++ (ring 4 4 ++ (ring 5 5 ++ (ring 6 6 ++ (ring 7 7 ++
  (ring 8 8 ++ (fwd true 5 13 ++
  (ring 9 9 ++ (fwd true 6 14 ++
  (ring 10 10 ++ (fwd true 7 15 ++
  (ring 11 11 ++ (fwd true 8 16 ++ (fwd false 9 13 ++
  (ring 12 12 ++ (fwd false 10 14 ++ (fwd false 11 15 ++ (fwd false 12 16 ++
  ([0, 1, 2, 3, 4, 5, 6, 7, 8].map (.rw false) ++ ([0, 1, 2, 3, 4, 9, 10, 11, 12].map (.rw true) ++
  (fold 13 ++ (fold 14 ++ (fold 15 ++ (fold 16 ++ (fold 17 ++
  ([13, 14, 15, 16].flatMap (fun c => [.rw false c, .rw true c]) ++
  (upto17.map (.rd false) ++ (upto17.map (.rd true) ++ (upto18.map .ow ++
  [.sig2 0, .sig2 1, .sig2 2, .bar2]))))))))))))))))))))))))))))))))))

/-- The printed body is the list of operations. -/
theorem body_eq (A : Args) (h₀ : A.x.IsWhole) (h₁ : A.out.IsWhole) (h₂ : A.cm.IsWhole) (h₃ : A.xv.IsWhole) :
    cc0_body (F := F) A.x h₀ A.out h₁ A.cm h₂ A.xv h₃ A.ys A.yr A.cs A.cr A.as_ A.ar A.xin A.od A.sb =
      .op .deviceId fun d => runOps A d ops := by
  chain_rfl

end Cert.AllReduce

end
-- ==== Proof.Regions.lean ====
/-
The pieces as sets of elements, and what a transfer between equal pieces leaves.

`reg a` is the set of elements of the piece `a`, its quarter counted from row 0. The fifty-two of them are disjoint and
fill the array. A view of a piece, whichever device names it, has such a set.
-/
module

public import proofs.«01_k».proof.Proof.Ops
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The sets -/

theorem piece_inb (a : Ch) : ∀ k, (![lo a, 0] : Fin 2 → ℕ) k + szs a.2 k ≤ S4096x1024.size k := by
  intro k
  fin_cases k
  · exact lo_fits a
  · exact le_rfl

/-- The elements of a piece. -/
def reg (a : Ch) : Finset S4096x1024.Idx := (Rect.unit (s := S4096x1024) ![lo a, 0] (szs a.2) (piece_inb a)).set

theorem mem_reg {a : Ch} {i : S4096x1024.Idx} : i ∈ reg a ↔ lo a ≤ (i 0).val ∧ (i 0).val < lo a + rows a.2 := by
  unfold reg
  rw [Rect.mem_set_unit]
  constructor
  · intro h; exact h 0
  · intro h k
    fin_cases k
    · exact h
    · exact ⟨Nat.zero_le _, by have := (i 1).isLt; simpa using this⟩

theorem lo_apart (a b : Ch) (h : a ≠ b) : lo a + rows a.2 ≤ lo b ∨ lo b + rows b.2 ≤ lo a := by
  revert a b; decide +kernel

theorem reg_disjoint (a b : Ch) (h : a ≠ b) : Disjoint (reg a) (reg b) := by
  rw [Finset.disjoint_left]
  intro i ha hb
  rw [mem_reg] at ha hb
  rcases lo_apart a b h with h | h <;> omega

theorem quarter_cover (r : Fin 1024) : ∃ j : Fin 13, from0 j ≤ r.val ∧ r.val < from0 j + rows j := by
  revert r; decide +kernel

theorem reg_cover : Finset.univ.biUnion reg = Finset.univ := by
  ext i
  simp only [Finset.mem_biUnion, Finset.mem_univ, true_and, iff_true]
  have hi : (i 0).val < 4096 := (i 0).isLt
  obtain ⟨j, h1, h2⟩ := quarter_cover ⟨(i 0).val % 1024, Nat.mod_lt _ (by decide)⟩
  refine ⟨(⟨(i 0).val / 1024, by omega⟩, j), ?_⟩
  rw [mem_reg]
  simp only [lo] at *
  omega

/-! ## The views of a piece -/

abbrev xM : Memref sig .tc .hbm S4096x1024 .f32 := Memref.whole main_arg0
abbrev oM : Memref sig .tc .hbm S4096x1024 .f32 := Memref.whole main_v1
abbrev cM : Memref sig .tc .vmem S4096x1024 .f32 := Memref.whole cc0_scratch0
abbrev vM : Memref sig .tc .vmem S4096x1024 .f32 := Memref.whole cc0_scratch1

/-- What a buffer holds. -/
abbrev Cont (F : FTy → Type) : Type := S4096x1024.Idx → Elt F .f32

theorem rect_eq (d : Dev nD) (i : Ch) :
    (Rect.unit (s := S4096x1024) (off d i.1 i.2) (szs i.2) (off_inb d i.1 i.2)).set = reg (ab d i) := by
  have h : off d i.1 i.2 = ![lo (ab d i), 0] := off_eq d i.1 i.2
  ext k
  rw [Rect.mem_set_unit, reg, Rect.mem_set_unit, h]
  rfl

theorem set_x (d : Dev nD) (i : Ch) : (pc xM d i).view.set = reg (ab d i) :=
  (View.set_slice_whole main_arg0 _).trans (rect_eq d i)
theorem set_o (d : Dev nD) (i : Ch) : (pc oM d i).view.set = reg (ab d i) :=
  (View.set_slice_whole main_v1 _).trans (rect_eq d i)
theorem set_c (d : Dev nD) (i : Ch) : (pc cM d i).view.set = reg (ab d i) :=
  (View.set_slice_whole cc0_scratch0 _).trans (rect_eq d i)
theorem set_v (d : Dev nD) (i : Ch) : (pc vM d i).view.set = reg (ab d i) :=
  (View.set_slice_whole cc0_scratch1 _).trans (rect_eq d i)

theorem rectL_eq (d : Dev nD) (c : Fin 18) : (rl d c).set = reg (ab d (yS c)) := by
  rw [← rect_eq]
  ext k
  rw [Rect.mem_set_unit, Rect.mem_set_unit, offL_eq]

theorem acc_v (d : Dev nD) (c : Fin 18) : (vM.access (rl d c)).set = reg (ab d (yS c)) :=
  (View.set_slice_whole cc0_scratch1 _).trans (rectL_eq d c)
theorem acc_c (d : Dev nD) (c : Fin 18) : (cM.access (rl d c)).set = reg (ab d (yS c)) :=
  (View.set_slice_whole cc0_scratch0 _).trans (rectL_eq d c)

omit [FloatOps F] in
/-- A view written with what it reads of `g` holds `g`. -/
theorem write_read_of {sp : Space} {s : Shape} {e : EltTy} (v : View sig .tc sp s e) (f g : v.ref.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x)]
  simp [View.read_apply]

/-! ## Shares and amounts -/

/-- The amount a transfer of a part credits. -/
def amt (j : Fin 13) : ℕ := (pc xM 0 (0, j)).view.dmaCredit

theorem rows_pos (j : Fin 13) : 0 < rows j := by revert j; decide
theorem numel_pos (j : Fin 13) : 0 < (⟨2, szs j⟩ : Shape).numel := by revert j; decide +kernel
theorem amt_pos (j : Fin 13) : 0 < amt j := View.dmaCredit_pos _ (numel_pos j)

theorem amt_x (d : Dev nD) (i : Ch) : (pc xM d i).view.dmaCredit = amt i.2 := rfl
theorem amt_o (d : Dev nD) (i : Ch) : (pc oM d i).view.dmaCredit = amt i.2 := rfl
theorem amt_c (d : Dev nD) (i : Ch) : (pc cM d i).view.dmaCredit = amt i.2 := rfl
theorem amt_v (d : Dev nD) (i : Ch) : (pc vM d i).view.dmaCredit = amt i.2 := rfl

end Cert.AllReduce

end
-- ==== Proof.Sched.lean ====
/-
The protocol: the semaphores' cells, who pays on them and what each payment hands over.

Each device has seventy cells for the eighteen pieces it reads, exchanges with its mate and writes out, sixty-eight for
the seventeen pieces of each ring direction, and the two barriers. A cell has one round. A transfer's cell has one duty,
paid by the transfer; a barrier's has three, duty `t` paid by the neighbour whose `t`-th signal goes there.

- `xin c` hands back piece `c` of the input and its copy.
- `ys c`, `rs b c` hand the sent piece back to its sender.
- `yr c` hands over the mate's piece, `rr b c` the ring neighbour's.
- `od c` hands over the piece of the result and back the share of the sum it was written from.
- the first barrier hands over the places in the neighbours' buffers that the device will write.
- the second barrier hands over nothing.
-/
module

public import proofs.«01_k».proof.Proof.Regions

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

/-- A device's semaphores. -/
inductive Cell
  | xin (c : Fin 18) | od (c : Fin 18) | ys (c : Fin 18) | yr (c : Fin 18)
  | rs (b : Bool) (c : Fin 17) | rr (b : Bool) (c : Fin 17)
  | bar | sec
  deriving DecidableEq

/-- All of a device's semaphores. -/
def cells : List Cell :=
  upto18.map .xin ++ (upto18.map .od ++ (upto18.map .ys ++ (upto18.map .yr ++ (upto17.map (.rs false) ++ (upto17.map (.rs true) ++
  (upto17.map (.rr false) ++ (upto17.map (.rr true) ++ [.bar, .sec])))))))

theorem mem_upto18 (c : Fin 18) : c ∈ upto18 := by revert c; decide
theorem mem_upto17 (c : Fin 17) : c ∈ upto17 := by revert c; decide

theorem cells_nodup : cells.Nodup := by decide +kernel
theorem mem_cells (k : Cell) : k ∈ cells := by
  have h (c : Fin 18) := mem_upto18 c
  have h' (c : Fin 17) := mem_upto17 c
  unfold cells
  rcases k with c | c | c | c | ⟨_ | _, c⟩ | ⟨_ | _, c⟩ | _ | _ <;> simp only [List.mem_append, List.mem_map]
  · exact Or.inl ⟨c, h c, rfl⟩
  · exact Or.inr (Or.inl ⟨c, h c, rfl⟩)
  · exact Or.inr (Or.inr (Or.inl ⟨c, h c, rfl⟩))
  · exact Or.inr (Or.inr (Or.inr (Or.inl ⟨c, h c, rfl⟩)))
  · exact Or.inr (Or.inr (Or.inr (Or.inr (Or.inl ⟨c, h' c, rfl⟩))))
  · exact Or.inr (Or.inr (Or.inr (Or.inr (Or.inr (Or.inl ⟨c, h' c, rfl⟩)))))
  · exact Or.inr (Or.inr (Or.inr (Or.inr (Or.inr (Or.inr (Or.inl ⟨c, h' c, rfl⟩))))))
  · exact Or.inr (Or.inr (Or.inr (Or.inr (Or.inr (Or.inr (Or.inr (Or.inl ⟨c, h' c, rfl⟩)))))))
  · exact Or.inr (Or.inr (Or.inr (Or.inr (Or.inr (Or.inr (Or.inr (Or.inr (List.mem_cons_self ..))))))))
  · exact Or.inr (Or.inr (Or.inr (Or.inr (Or.inr (Or.inr (Or.inr (Or.inr (List.mem_cons_of_mem _ (List.mem_singleton.mpr rfl)))))))))

instance : Fintype Cell := ⟨⟨cells, cells_nodup⟩, mem_cells⟩

/-- What the launched body is called with. -/
abbrev A0 : Args := ⟨xM, oM, cM, vM, cc0_scratch2, cc0_scratch3, cc0_scratch4, cc0_scratch5, cc0_scratch6, cc0_scratch7,
  cc0_scratch8, cc0_scratch9, cc0_scoped0⟩

/-- Where a cell is on its device. -/
def sl : Cell → SemLoc sig
  | .xin c => .dma (s18 A0.xin c)
  | .od c => .dma (s18 A0.od c)
  | .ys c => .dma (s18 A0.ys c)
  | .yr c => .dma (s18 A0.yr c)
  | .rs b c => .dma (s17 (A0.rs b) c)
  | .rr b c => .dma (s17 (A0.rr b) c)
  | .bar => .reg (SemArray.scalar (d := S_.size) (sig.barrier 0 rfl)).sem
  | .sec => .reg A0.sb.sem

/-- The cell at a place. -/
def kd : SemLoc sig → Option Cell
  | .reg n => if n.val = 0 then some .bar else some .sec
  | .dma n =>
    if h : n.val < 18 then some (.ys ⟨n.val, h⟩)
    else if h : n.val < 36 then some (.yr ⟨n.val - 18, by omega⟩)
    else if h : n.val < 53 then some (.rs false ⟨n.val - 36, by omega⟩)
    else if h : n.val < 70 then some (.rr false ⟨n.val - 53, by omega⟩)
    else if h : n.val < 87 then some (.rs true ⟨n.val - 70, by omega⟩)
    else if h : n.val < 104 then some (.rr true ⟨n.val - 87, by omega⟩)
    else if h : n.val < 122 then some (.xin ⟨n.val - 104, by omega⟩)
    else if h : n.val < 140 then some (.od ⟨n.val - 122, by omega⟩)
    else none

theorem kd_sl (k : Cell) : kd (sl k) = some k := by revert k; decide +kernel

theorem sl_inj {k k' : Cell} (h : sl k = sl k') : k = k' := by
  have := congrArg kd h
  rw [kd_sl, kd_sl] at this
  exact Option.some.inj this

/-- A device's cell. -/
abbrev gc (d : Dev nD) (k : Cell) : GSem nD τ sig := ((d : Thread nD τ), sl k)

theorem gc_inj {d d' : Dev nD} {k k' : Cell} (h : gc d k = gc d' k') : d = d' ∧ k = k' :=
  ⟨congrArg (fun g : GSem nD τ sig => g.1.1) h, sl_inj (congrArg Prod.snd h)⟩

/-- The piece of a ring transfer among the eighteen that are exchanged with the mate. -/
def rc (b : Bool) (c : Fin 17) : Fin 18 := ⟨(rJ b c).val, by have := (rJ b c).isLt; omega⟩
/-- The ring transfer whose piece is passed on. -/
def fs (b : Bool) (c : Fin 17) : Fin 17 := if b then ⟨c.val - 8, by omega⟩ else ⟨c.val - 4, by omega⟩

theorem rO_first (b : Bool) (c : Fin 17) (h : c.val < 13) : rO b c = yS (rc b c) := by revert b c; decide +kernel
theorem rO_pass (b : Bool) (c : Fin 17) (h : ¬ c.val < 13) : rO b c = rI b (fs b c) := by revert b c; decide +kernel
theorem fs_lt (b : Bool) (c : Fin 17) (h : ¬ c.val < 13) : (fs b c).val < 13 := by revert b c; decide +kernel

/-- The piece a cell counts. -/
def pt : Cell → Fin 13
  | .xin c => (yS c).2 | .od c => (yS c).2 | .ys c => (yS c).2 | .yr c => (yS c).2
  | .rs b c => rJ b c | .rr b c => rJ b c
  | .bar => 0 | .sec => 0

/-- Whether a cell is a barrier's. -/
def isB : Cell → Bool
  | .bar => true | .sec => true | _ => false

/-- The amount of a duty, and of a cell's round. -/
def one (k : Cell) : ℕ := if isB k then 1 else amt (pt k)
def tot (k : Cell) : ℕ := if isB k then 3 else amt (pt k)

theorem one_pos (k : Cell) : 0 < one k := by
  unfold one; split
  · exact Nat.one_pos
  · exact amt_pos _

/-! ## The algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Separating conjunction of a list. -/
def lsep : List (sProp 𝕄) → sProp 𝕄
  | [] => iprop(emp)
  | P :: l => iprop(P ∗ lsep l)

/-! ## Contents -/

variable (m : (ℓ : Loc nD τ sig) → Buf (Elt F) ℓ)

/-- A device's input. -/
def X (d : Dev nD) : Cont F := m ((d : Thread nD τ).loc main_arg0)
/-- The sum of a device's input and its mate's. -/
def Sm (d : Dev nD) : Cont F := addf (s := S4096x1024) (φ := .f32) (X m d) (X m (mate d))

/-- The device a received piece was summed on. -/
def src (b : Bool) (c : Fin 17) (d : Dev nD) : Dev nD := if c.val < 13 then tgt (!b) d else tgt (!b) (tgt (!b) d)

theorem src_tgt_first (b : Bool) (c : Fin 17) (d : Dev nD) (h : c.val < 13) : src b c (tgt b d) = d := by
  unfold src; rw [if_pos h, tgt_not_tgt]
theorem src_tgt_pass (b : Bool) (c : Fin 17) (d : Dev nD) (h : ¬ c.val < 13) : src b c (tgt b d) = src b (fs b c) d := by
  unfold src; rw [if_neg h, if_pos (fs_lt b c h), tgt_not_tgt]

/-! ## Pieces held -/

/-- A piece of the input, of the result, of the mate's buffer, of the input's copy. -/
def xP (e : Dev nD) (a : Ch) (q : PosShare TreeShare) (f : Cont F) : sProp 𝕄 := (e : Thread nD τ).loc main_arg0 ↦[reg a]{q} f
def oP (e : Dev nD) (a : Ch) (q : PosShare TreeShare) (f : Cont F) : sProp 𝕄 := (e : Thread nD τ).loc main_v1 ↦[reg a]{q} f
def cP (e : Dev nD) (a : Ch) (q : PosShare TreeShare) (f : Cont F) : sProp 𝕄 := (e : Thread nD τ).loc cc0_scratch0 ↦[reg a]{q} f
def vP (e : Dev nD) (a : Ch) (q : PosShare TreeShare) (f : Cont F) : sProp 𝕄 := (e : Thread nD τ).loc cc0_scratch1 ↦[reg a]{q} f

instance xP_st (e : Dev nD) (a : Ch) (q) (f : Cont F) : BI.Storable (upEmb : UEmb _ 𝕄) (xP e a q f) := by unfold xP; infer_instance
instance oP_st (e : Dev nD) (a : Ch) (q) (f : Cont F) : BI.Storable (upEmb : UEmb _ 𝕄) (oP e a q f) := by unfold oP; infer_instance
instance cP_st (e : Dev nD) (a : Ch) (q) (f : Cont F) : BI.Storable (upEmb : UEmb _ 𝕄) (cP e a q f) := by unfold cP; infer_instance
instance vP_st (e : Dev nD) (a : Ch) (q) (f : Cont F) : BI.Storable (upEmb : UEmb _ 𝕄) (vP e a q f) := by unfold vP; infer_instance

/-- The three shares of a piece of the sum: for the result, for either ring direction. -/
def sh3 (s : Fin 3) : PosShare TreeShare := Ring.shares3 fullShare s

/-- What a device holds, or is handed, of the buffers. -/
inductive Dat
  /-- piece `c` of the input -/
  | xf (c : Fin 18)
  /-- its place in the copy -/
  | vu (c : Fin 18)
  /-- its copy -/
  | v (c : Fin 18)
  /-- the place of piece `c` in the mate's buffer -/
  | cb (c : Fin 18)
  /-- piece `c` of the mate's input -/
  | cm (c : Fin 18)
  /-- a share of piece `c` of the sum -/
  | sh (s : Fin 3) (c : Fin 18)
  /-- the place of piece `c` in the result -/
  | ob (c : Fin 18)
  /-- piece `c` of the result -/
  | of (c : Fin 18)
  /-- the place of piece `c` of a ring direction in the result of the next in that direction -/
  | rdst (b : Bool) (c : Fin 17)
  /-- piece `c` of the result from a ring direction -/
  | ri (b : Bool) (c : Fin 17)
  deriving DecidableEq

/-- The same as an assertion. -/
def dat (d : Dev nD) : Dat → sProp 𝕄
  | .xf c => xP d (ab d (yS c)) fullShare (X m d)
  | .vu c => iprop(∃ f, vP d (ab d (yS c)) fullShare f)
  | .v c => vP d (ab d (yS c)) fullShare (X m d)
  | .cb c => iprop(∃ f, cP (mate d) (ab d (yS c)) fullShare f)
  | .cm c => cP d (ab d (yS c)) fullShare (X m (mate d))
  | .sh s c => vP d (ab d (yS c)) (sh3 s) (Sm m d)
  | .ob c => iprop(∃ f, oP d (ab d (yS c)) fullShare f)
  | .of c => oP d (ab d (yS c)) fullShare (Sm m d)
  | .rdst b c => iprop(∃ f, oP (tgt b d) (ab d (rO b c)) fullShare f)
  | .ri b c => oP d (ab d (rI b c)) fullShare (Sm m (src b c d))

instance dat_st (d : Dev nD) (r : Dat) : BI.Storable (upEmb : UEmb _ 𝕄) (dat m d r) := by
  cases r <;> (unfold dat; infer_instance)

/-- What a ring transfer reads. -/
def rsrc (b : Bool) (c : Fin 17) : Dat := if c.val < 13 then .sh (if b then 2 else 1) (rc b c) else .ri b (fs b c)

/-- What duty `t` of the first barrier hands over. -/
def barD : Fin 3 → List Dat
  | 0 => upto18.map .cb
  | 1 => upto17.map (.rdst true)
  | 2 => upto17.map (.rdst false)

/-- What duty `t` of a cell hands over. -/
def payD : Cell → Fin 3 → List Dat
  | .xin c, _ => [.v c, .xf c]
  | .od c, _ => [.of c, .sh 0 c]
  | .ys c, _ => [.v c]
  | .yr c, _ => [.cm c]
  | .rs b c, _ => [rsrc b c]
  | .rr b c, _ => [.ri b c]
  | .bar, t => barD t
  | .sec, _ => []

/-- The same as an assertion. -/
def pay (d : Dev nD) (k : Cell) (t : Fin 3) : sProp 𝕄 := lsep ((payD k t).map (dat m d))

omit [FloatOps F] in
theorem lsep_st (l : List (sProp 𝕄)) (h : ∀ P ∈ l, BI.Storable (upEmb : UEmb _ 𝕄) P) : BI.Storable (upEmb : UEmb _ 𝕄) (lsep l) := by
  induction l with
  | nil => unfold lsep; infer_instance
  | cons P l ih =>
    have h1 := h P (List.mem_cons_self ..)
    have h2 := ih fun Q hQ => h Q (List.mem_cons_of_mem _ hQ)
    unfold lsep; infer_instance

instance pay_st (d : Dev nD) (k : Cell) (t : Fin 3) : BI.Storable (upEmb : UEmb _ 𝕄) (pay m d k t) := by
  unfold pay
  refine lsep_st _ fun P hP => ?_
  obtain ⟨r, -, rfl⟩ := List.mem_map.mp hP
  infer_instance

/-! ## The schedule -/

/-- The duties of a cell. -/
def dts (k : Cell) : Finset (Fin 3) := if isB k then Finset.univ else {0}

/-- The schedule of all cells. -/
def Rd : Rounds.Schedule (GSem nD τ sig) (Fin 3) 𝕄 where
  duties g r := if r = 0 ∧ g.1.2 = .tc then (kd g.2).elim ∅ dts else ∅
  unitless _ := False
  amount g _ _ := (kd g.2).elim 1 one
  payload g _ t := (kd g.2).elim iprop(emp) fun k => pay m g.1.1 k t
  amount_pos g _ _ _ := by
    cases kd g.2 with
    | none => exact Nat.one_pos
    | some k => exact one_pos k

instance Rd_st (g : GSem nD τ sig) (r : ℕ) (t : Fin 3) : BI.Storable (upEmb : UEmb _ 𝕄) ((Rd (F := F) m).payload g r t) := by
  show BI.Storable upEmb ((kd g.2).elim iprop(emp) fun k => pay m g.1.1 k t)
  cases kd g.2 with
  | none => dsimp only [Option.elim]; infer_instance
  | some k => dsimp only [Option.elim]; infer_instance

theorem duties_gc (d : Dev nD) (k : Cell) : (Rd (F := F) m).duties (gc d k) 0 = dts k := by
  dsimp only [Rd, gc]; rw [kd_sl, if_pos ⟨rfl, rfl⟩]; rfl
theorem amount_gc (d : Dev nD) (k : Cell) (t : Fin 3) : (Rd (F := F) m).amount (gc d k) 0 t = one k := by
  dsimp only [Rd, gc]; rw [kd_sl]; rfl
theorem payload_gc (d : Dev nD) (k : Cell) (t : Fin 3) : (Rd (F := F) m).payload (gc d k) 0 t = pay m d k t := by
  dsimp only [Rd, gc]; rw [kd_sl]; rfl
theorem expect_gc (d : Dev nD) (k : Cell) : (Rd (F := F) m).expect (gc d k) 0 = tot k := by
  unfold Schedule.expect Schedule.amountOf
  rw [duties_gc, Finset.sum_congr rfl fun t _ => amount_gc m d k t, Finset.sum_const, smul_eq_mul]
  unfold dts one tot
  split <;> simp
theorem duties_later (g : GSem nD τ sig) : ∀ r, 1 ≤ r → (Rd (F := F) m).duties g r = ∅ :=
  fun r hr => by dsimp only [Rd]; rw [if_neg fun h => by omega]

theorem mem_duty (d : Dev nD) (k : Cell) (t : Fin 3) (h : t ∈ dts k) : t ∈ (Rd (F := F) m).duties (gc d k) 0 := by
  rw [duties_gc]; exact h

/-- What the wait for a transfer hands over. -/
theorem rest_dma (d : Dev nD) (k : Cell) (h : isB k = false) :
    bigSep ((Rd (F := F) m).duties (gc d k) 0 \ ∅) (fun t => (Rd m).payload (gc d k) 0 t) = pay m d k 0 := by
  rw [Finset.sdiff_empty, duties_gc, dts, h, if_neg Bool.false_ne_true, bigSep_singleton, payload_gc]

/-- What the wait on a barrier hands over. -/
theorem rest_bar (d : Dev nD) (k : Cell) (h : isB k = true) :
    bigSep ((Rd (F := F) m).duties (gc d k) 0 \ ∅) (fun t => (Rd m).payload (gc d k) 0 t) =
      iprop(pay m d k 0 ∗ pay m d k 1 ∗ pay m d k 2) := by
  rw [Finset.sdiff_empty, duties_gc, dts, h, if_pos rfl, bigSep_univ_eq_bigSepL [0, 1, 2] (by decide) (by decide),
    bigSepL_cons_cons, bigSepL_cons_cons, bigSepL_singleton, payload_gc, payload_gc, payload_gc]
  rfl

/-! ## Who pays -/

/-- The device on whose cell `k` the device `d` pays duty `t`. -/
def payee (d : Dev nD) : Cell → Fin 3 → Dev nD
  | .yr _, _ => mate d
  | .rr b _, _ => tgt b d
  | .bar, t => nb d t
  | .sec, t => nb d t
  | _, _ => d

/-- What a device owes for an operation. -/
def due (d : Dev nD) : Op → CellTallies nD τ sig Unit
  | .sig t => tallyAt (gc (nb d t) .bar) () 1
  | .ys c => tallyAt (gc (mate d) (.yr c)) () (amt (yS c).2)
  | .rs b c => tallyAt (gc (tgt b d) (.rr b c)) () (amt (rJ b c))
  | .sig2 t => tallyAt (gc (nb d t) .sec) () 1
  | _ => 0

/-- What it owes for a list. -/
def dueSum (d : Dev nD) : List Op → CellTallies nD τ sig Unit
  | [] => 0
  | o :: os => due d o + dueSum d os

/-! ## Levels -/

/-- The level of a cell. A device waits on a cell while it owes only on cells of higher level. -/
def lev : Cell → ℕ
  | .bar => 1 | .yr _ => 2 | .rr _ c => 3 + c.val | .sec => 100 | _ => 0

def L (g : GSem nD τ sig) : Finset Unit := if g.1.2 = .tc then {()} else ∅
def lv (g : GSem nD τ sig) (_ : Unit) : ℕ := (kd g.2).elim 0 lev

theorem L_of_ne (g : GSem nD τ sig) (h : g.1.2 ≠ .tc) : L g = ∅ := if_neg h
theorem L_gc (d : Dev nD) (k : Cell) : L (gc d k) = {()} := if_pos rfl
theorem lv_gc (d : Dev nD) (k : Cell) (u : Unit) : lv (gc d k) u = lev k := by
  dsimp only [lv, gc]; rw [kd_sl]; rfl

end Cert.AllReduce

end
-- ==== Proof.Steps.lean ====
/-
One operation at a time: what each needs, what it gives back.

`pre o` and `post o` list what operation `o` takes and returns. `step` is the rule: from the cells' records, the levels,
`pre o` and what is owed for `o`, the operation runs and leaves `post o`.
-/
module

public import proofs.«01_k».proof.Proof.Sched

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Resources -/

/-- What a device holds. -/
inductive Res
  /-- buffer contents -/
  | h (r : Dat)
  /-- its place at the start of a cell's round -/
  | at0 (k : Cell)
  /-- a cell's counter back at zero -/
  | fin (k : Cell)
  /-- the credit to wait on a cell -/
  | cr (k : Cell)
  /-- the right to pay duty `t` on a cell -/
  | tk (k : Cell) (t : Fin 3)
  /-- what it hands over with its `t`-th signal -/
  | gv (t : Fin 3)
  deriving DecidableEq

/-- The same as an assertion. -/
def res (d : Dev nD) : Res → sProp 𝕄
  | .h r => dat m d r
  | .at0 k => atPos ER (gc d k) 0 ∅ 0
  | .fin k => semVal (gc d k) 0
  | .cr k => cred (tallyAt (gc d k) () (tot k))
  | .tk k t => dutyTok ER (gc (payee d k t) k) 0 t
  | .gv t => pay m (nb d t) .bar t

/-- A list of them. -/
def own (d : Dev nD) (l : List Res) : sProp 𝕄 := lsep (l.map (res m d))

omit [FloatOps F] in
theorem lsep_append (l l' : List (sProp 𝕄)) : lsep (l ++ l') ⊣⊢ iprop(lsep l ∗ lsep l') := by
  induction l with
  | nil => exact ⟨BI.emp_sep.2, BI.emp_sep.1⟩
  | cons P l ih =>
    refine ⟨?_, ?_⟩
    · refine BI.Entails.trans (Q := iprop(P ∗ (lsep l ∗ lsep l'))) (sep_mono_right ih.1) ?_
      show _ ⊢ iprop((P ∗ lsep l) ∗ lsep l')
      iintro ⟨H1, H2, H3⟩
      isplitl [H1 H2]
      · isplitl [H1] <;> iassumption
      iexact H3
    · refine BI.Entails.trans (Q := iprop(P ∗ (lsep l ∗ lsep l'))) ?_ (sep_mono_right ih.2)
      show iprop((P ∗ lsep l) ∗ lsep l') ⊢ _
      iintro ⟨⟨H1, H2⟩, H3⟩
      isplitl [H1]; · iexact H1
      isplitl [H2] <;> iassumption

/-! ## Records -/

/-- Every cell's invariant, and that its round has been reached. -/
def recs (K : Dev nD × Cell → ℕ) : sProp 𝕄 :=
  iprop((bigSep Finset.univ fun x : Dev nD × Cell => cellInv ER (Rd m) (K x) (gc x.1 x.2))
    ∗ bigSep Finset.univ fun x : Dev nD × Cell => reached ER (gc x.1 x.2) 0)

instance recs_persistent (K : Dev nD × Cell → ℕ) : BI.Persistent (recs m K) := by unfold recs; infer_instance

theorem recs_inv (K : Dev nD × Cell → ℕ) (d : Dev nD) (k : Cell) : recs m K ⊢ cellInv ER (Rd m) (K (d, k)) (gc d k) := by
  unfold recs
  have h : (bigSep Finset.univ fun x : Dev nD × Cell => cellInv ER (Rd m) (K x) (gc x.1 x.2)) ⊢ cellInv ER (Rd m) (K (d, k)) (gc d k) :=
    bigSep_elim (Finset.mem_univ (d, k))
  iintro ⟨H, -⟩
  iapply h; iexact H

theorem recs_reached (K : Dev nD × Cell → ℕ) (d : Dev nD) (k : Cell) : recs m K ⊢ reached ER (gc d k) 0 := by
  unfold recs
  have h : (bigSep Finset.univ fun x : Dev nD × Cell => (reached ER (gc x.1 x.2) 0 : sProp 𝕄)) ⊢ reached ER (gc d k) 0 :=
    bigSep_elim (Finset.mem_univ (d, k))
  iintro ⟨-, H⟩
  iapply h; iexact H

/-! ## What an operation takes and gives -/

/-- The cell an operation waits on. -/
def wcell : Op → Option Cell
  | .bar => some .bar
  | .xw c => some (.xin c)
  | .yr c => some (.yr c)
  | .yw c => some (.ys c)
  | .rw b c => some (.rr b c)
  | .rd b c => some (.rs b c)
  | .ow c => some (.od c)
  | .bar2 => some .sec
  | _ => none

/-- All that a cell's round hands over. -/
def payAll (k : Cell) : List Dat := if isB k then payD k 0 ++ (payD k 1 ++ payD k 2) else payD k 0

def waitPre (k : Cell) : List Res := [.cr k, .at0 k]
def waitPost (k : Cell) : List Res := .fin k :: (payAll k).map .h

def pre : Op → List Res
  | .xin c => [.h (.xf c), .h (.vu c), .tk (.xin c) 0]
  | .sig t => [.tk .bar t, .gv t]
  | .ys c => [.h (.v c), .h (.cb c), .tk (.ys c) 0, .tk (.yr c) 0]
  | .add c => [.h (.v c), .h (.cm c)]
  | .od c => [.h (.sh 0 c), .h (.ob c), .tk (.od c) 0]
  | .rs b c => [.h (rsrc b c), .h (.rdst b c), .tk (.rs b c) 0, .tk (.rr b c) 0]
  | .sig2 t => [.tk .sec t]
  | .bar => waitPre .bar
  | .xw c => waitPre (.xin c)
  | .yr c => waitPre (.yr c)
  | .yw c => waitPre (.ys c)
  | .rw b c => waitPre (.rr b c)
  | .rd b c => waitPre (.rs b c)
  | .ow c => waitPre (.od c)
  | .bar2 => waitPre .sec

def post : Op → List Res
  | .xin c => [.cr (.xin c)]
  | .sig _ => []
  | .ys c => [.cr (.ys c)]
  | .add c => [.h (.sh 0 c), .h (.sh 1 c), .h (.sh 2 c), .h (.cm c)]
  | .od c => [.cr (.od c)]
  | .rs b c => [.cr (.rs b c)]
  | .sig2 _ => []
  | .bar => waitPost .bar
  | .xw c => waitPost (.xin c)
  | .yr c => waitPost (.yr c)
  | .yw c => waitPost (.ys c)
  | .rw b c => waitPost (.rr b c)
  | .rd b c => waitPost (.rs b c)
  | .ow c => waitPost (.od c)
  | .bar2 => waitPost .sec

/-! ## The rule -/

abbrev 𝒱₀ : Variants := Variants.none

/-- A device's program with its continuation. -/
abbrev Code (F : FTy → Type) [FloatOps F] : Type 1 := Prog (TpuEff nD τ sig (Elt F) Λ₀ .tc) PUnit

/-- The weakest precondition of a device's program. -/
abbrev wpd (d : Dev nD) (P : Code F) (Q : PUnit → sProp 𝕄) : sProp 𝕄 :=
  wp frame (wpE (defs₀ (F := F)) 𝒱₀ (d : Thread nD τ) none) Set.univ P Q

/-- All that is owed is owed on cells above a cell. -/
def Above (k : Cell) (O : CellTallies nD τ sig Unit) : Prop :=
  ∀ g u, 0 < O g u → ∃ d' k', g = gc d' k' ∧ lev k < lev k'

omit [FloatOps F] in
theorem mayWait (d : Dev nD) (k : Cell) (O : CellTallies nD τ sig Unit) (h : Above k O) :
    (levAts L lv : sProp 𝕄) ⊢ MayWait (d : Thread nD τ) (sl k) () O := by
  refine MayOwe.of_cut (L := L) (lev := lv) (lev k) (fun p hp => ?_) (fun g u hg => ?_) (fun p hp => ?_) (fun g u hg => ?_)
  · rw [Finset.mem_singleton.mp hp]; exact Finset.mem_singleton_self _
  · obtain ⟨d', k', rfl, -⟩ := h g u hg
    exact Finset.mem_singleton_self _
  · rw [Finset.mem_singleton.mp hp]; exact le_of_eq (lv_gc d k ())
  · obtain ⟨d', k', rfl, h⟩ := h g u hg
    rw [lv_gc]; exact h

omit [FloatOps F] in
theorem own_nil (d : Dev nD) [FloatOps F] : own m d [] = iprop(emp) := rfl
theorem own_cons (d : Dev nD) (r : Res) (l : List Res) : own m d (r :: l) = iprop(res m d r ∗ own m d l) := rfl

theorem own_dats (d : Dev nD) (l : List Dat) : own m d (l.map .h) = lsep (l.map (dat m d)) := by
  unfold own; rw [List.map_map]; rfl

/-- What a wait hands over, as resources. -/
theorem rest_own (d : Dev nD) (k : Cell) :
    bigSep ((Rd (F := F) m).duties (gc d k) 0 \ ∅) (fun t => (Rd m).payload (gc d k) 0 t) ⊢ own m d ((payAll k).map .h) := by
  rw [own_dats]
  unfold payAll
  cases h : isB k with
  | false => rw [rest_dma m d k h, if_neg Bool.false_ne_true]; exact BI.Entails.refl _
  | true =>
    rw [rest_bar m d k h, if_pos rfl, List.map_append, List.map_append]
    exact (sep_mono_right (lsep_append _ _).2).trans (lsep_append _ _).2

/-- A wait. -/
theorem wait_step (K : Dev nD × Cell → ℕ) (d : Dev nD) (k : Cell) (w : TpuEff nD τ sig (Elt F) Λ₀ .tc PUnit)
    (hw : ∀ R : PUnit → sProp 𝕄, wpE (defs₀ (F := F)) 𝒱₀ (d : Thread nD τ) none Set.univ w R = waitSpec (d : Thread nD τ) Set.univ (sl k) (tot k) R)
    (O : CellTallies nD τ sig Unit) (W : Waits sig Unit) (hO : Above k O) (f : PUnit.{1} → Code F) (Q : PUnit → sProp 𝕄) :
    iprop(recs m K ∗ levAts L lv ∗ own m d (waitPre k) ∗ owes (d : Thread nD τ) O W)
      ⊢ iprop((∀ W', own m d (waitPost k) -∗ owes (d : Thread nD τ) O W' -∗ wpd d (f ⟨⟩) Q) -∗ wpd d (.op w f) Q) := by
  unfold waitPre waitPost
  simp only [own_cons, own_nil, res]
  iintro ⟨#HI, #Hlev, ⟨Hc, Hat, -⟩, HO⟩ Hk
  iapply (Rounds.wp_wait_rest_token 𝒱₀ ER (Rd m) (d : Thread nD τ) none (κ := K (d, k)) hw (Set.mem_univ _) () (O := O) (W := W)
      (R := 0) (m := 0) (T := ∅) (by rw [Nat.zero_add]; exact (expect_gc m d k).symm)) $$ [Hc HO Hat]
  · isplitr; · iapply (recs_inv m K d k); iexact HI
    isplitl [Hc]; · iexact Hc
    isplitl [HO]; · iexact HO
    isplitr; · iapply (mayWait d k O hO); iexact Hlev
    iexact Hat
  iintro ⟨HO, Hat, -, Hpay⟩
  imod (Rounds.cell_close ER (Rd m) (Set.mem_univ (K (d, k))) (fun h => h) (R := 0 + 1) (duties_later m (gc d k))) $$ [Hat] with Hz
  · isplitr; · iapply (recs_inv m K d k); iexact HI
    iexact Hat
  iapply Hk $$ [Hz Hpay] HO
  isplitl [Hz]; · iexact Hz
  iapply (rest_own m d k); iexact Hpay

end Cert.AllReduce

end
-- ==== Proof.Moves.lean ====
/-
The rule for each operation, and for any of them: `step`.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A piece through a view -/

section Views
variable (e d : Dev nD) (i : Ch) (q : PosShare TreeShare) (f g : Cont F)

theorem x_eq : ((pc xM d i).view.loc (e : Thread nD τ) ↦[(pc xM d i).view.set]{q} f : sProp 𝕄) = xP e (ab d i) q f := by
  unfold xP; rw [← set_x]
theorem o_eq : ((pc oM d i).view.loc (e : Thread nD τ) ↦[(pc oM d i).view.set]{q} f : sProp 𝕄) = oP e (ab d i) q f := by
  unfold oP; rw [← set_o]
theorem c_eq : ((pc cM d i).view.loc (e : Thread nD τ) ↦[(pc cM d i).view.set]{q} f : sProp 𝕄) = cP e (ab d i) q f := by
  unfold cP; rw [← set_c]
theorem v_eq : ((pc vM d i).view.loc (e : Thread nD τ) ↦[(pc vM d i).view.set]{q} f : sProp 𝕄) = vP e (ab d i) q f := by
  unfold vP; rw [← set_v]

/-- A piece of the copy after the same piece of the input has been written to it; -/
theorem land_xv : ((pc vM d i).view.loc (e : Thread nD τ) ↦[(pc vM d i).view.set]{q}
      ((pc vM d i).view.write (Elt F) f ((pc xM d i).view.read (Elt F) g) Finset.univ) : sProp 𝕄) = vP e (ab d i) q g := by
  rw [← v_eq]
  exact pointsTo_congr (write_read_of (pc vM d i).view f g)
/-- of the mate's buffer after a piece of the copy; -/
theorem land_vc : ((pc cM d i).view.loc (e : Thread nD τ) ↦[(pc cM d i).view.set]{q}
      ((pc cM d i).view.write (Elt F) f ((pc vM d i).view.read (Elt F) g) Finset.univ) : sProp 𝕄) = cP e (ab d i) q g := by
  rw [← c_eq]
  exact pointsTo_congr (write_read_of (pc cM d i).view f g)
/-- of the result after a piece of the copy; -/
theorem land_vo : ((pc oM d i).view.loc (e : Thread nD τ) ↦[(pc oM d i).view.set]{q}
      ((pc oM d i).view.write (Elt F) f ((pc vM d i).view.read (Elt F) g) Finset.univ) : sProp 𝕄) = oP e (ab d i) q g := by
  rw [← o_eq]
  exact pointsTo_congr (write_read_of (pc oM d i).view f g)
/-- of the result after a piece of a result. -/
theorem land_oo : ((pc oM d i).view.loc (e : Thread nD τ) ↦[(pc oM d i).view.set]{q}
      ((pc oM d i).view.write (Elt F) f ((pc oM d i).view.read (Elt F) g) Finset.univ) : sProp 𝕄) = oP e (ab d i) q g := by
  rw [← o_eq]
  exact pointsTo_congr (write_read_of (pc oM d i).view f g)

end Views

variable (m : (ℓ : Loc nD τ sig) → Buf (Elt F) ℓ)

theorem pay_yr (d : Dev nD) (c : Fin 18) : pay m (mate d) (.yr c) 0 = iprop(cP (mate d) (ab d (yS c)) fullShare (X m d) ∗ emp) := by
  show iprop(cP (mate d) (ab (mate d) (yS c)) fullShare (X m (mate (mate d))) ∗ emp) = _
  rw [ab_mate, mate_mate]

theorem pay_rr (d : Dev nD) (b : Bool) (c : Fin 17) :
    pay m (tgt b d) (.rr b c) 0 = iprop(oP (tgt b d) (ab d (rO b c)) fullShare (Sm m (src b c (tgt b d))) ∗ emp) := by
  show iprop(oP (tgt b d) (ab (tgt b d) (rI b c)) fullShare (Sm m (src b c (tgt b d))) ∗ emp) = _
  rw [ab_tgt]

theorem mem_duty0 (d : Dev nD) (k : Cell) (h : isB k = false) : (0 : Fin 3) ∈ (Rd (F := F) m).duties (gc d k) 0 :=
  mem_duty m d k 0 (by unfold dts; rw [h, if_neg Bool.false_ne_true]; exact Finset.mem_singleton_self _)

/-! ## The remote copies, their target named -/

/-- The copy of a piece to `n`. -/
def ysTo (d : Dev nD) (c : Fin 18) (n : Dev nD) : Code F :=
  Prog.lift (.enqueueDma (pc vM d (yS c)) (.remote (Dev.tc n) (pc cM d (yS c)) (.dma (s18 A0.ys c)))
    (.dma (s18 A0.yr c)) (View.wordExact_bits rfl) (View.wordExact_bits rfl) ⟨⟨rfl, Or.inl rfl⟩, trivial⟩)
/-- A piece of the sum sent along the ring to `n`. -/
def rsTo (d : Dev nD) (b : Bool) (c : Fin 17) (n : Dev nD) : Code F :=
  Prog.lift (.enqueueDma (pc vM d (rO b c)) (.remote (Dev.tc n) (pc oM d (rO b c)) (.dma (s17 (A0.rs b) c)))
    (.dma (s17 (A0.rr b) c)) (View.wordExact_bits rfl) (View.wordExact_bits rfl) ⟨⟨rfl, Or.inl rfl⟩, trivial⟩)
/-- A received piece passed on to `n`. -/
def rsOn (d : Dev nD) (b : Bool) (c : Fin 17) (n : Dev nD) : Code F :=
  Prog.lift (.enqueueDma (pc oM d (rO b c)) (.remote (Dev.tc n) (pc oM d (rO b c)) (.dma (s17 (A0.rs b) c)))
    (.dma (s17 (A0.rr b) c)) (View.wordExact_bits rfl) (View.wordExact_bits rfl) ⟨⟨rfl, Or.inl rfl⟩, trivial⟩)

theorem interp_ys (d : Dev nD) (c : Fin 18) : interp (F := F) A0 d (.ys c) = ysTo d c (mate d) :=
  (rfl : _ = ysTo d c (devY d c)).trans (by rw [devY_eq])
theorem interp_rs_first (d : Dev nD) (b : Bool) (c : Fin 17) (h : c.val < 13) : interp (F := F) A0 d (.rs b c) = rsTo d b c (tgt b d) :=
  (if_pos h : _ = rsTo d b c (devR d b c)).trans (by rw [devR_eq])
theorem interp_rs_pass (d : Dev nD) (b : Bool) (c : Fin 17) (h : ¬ c.val < 13) : interp (F := F) A0 d (.rs b c) = rsOn d b c (tgt b d) :=
  (if_neg h : _ = rsOn d b c (devR d b c)).trans (by rw [devR_eq])

/-! ## Each operation -/

variable (K : Dev nD × Cell → ℕ) (d : Dev nD) (O : CellTallies nD τ sig Unit) (W : Waits sig Unit) (f : PUnit.{1} → Code F) (Q : PUnit.{1} → sProp (MT nD τ sig Unit (Elt F) ℕ UU ℕ))

/-- What `step` says of an operation. -/
abbrev StepOf (o : Op) : Prop :=
  iprop(recs m K ∗ levAts L lv ∗ own m d (pre o) ∗ owes (d : Thread nD τ) (due d o + O) W)
    ⊢ iprop((∀ W', own m d (post o) -∗ owes (d : Thread nD τ) O W' -∗ wpd d (f ⟨⟩) Q) -∗ wpd d (interp A0 d o >>= f) Q)

theorem step_xin (c : Fin 18) : StepOf m K d O W f Q (.xin c) := by
  unfold StepOf pre post due interp
  simp only [own_cons, own_nil, res, dat, zero_add, Prog.lift, Prog.bind_op, Prog.bind_ret, payee]
  iintro ⟨#HI, #Hlev, ⟨Hx, ⟨%fv, Hv⟩, Ht, -⟩, HO⟩ Hk
  ihave Hx := (Entails.of_eq (x_eq d d (yS c) fullShare (X m d)).symm) $$ Hx
  ihave Hv := (Entails.of_eq (v_eq d d (yS c) fullShare fv).symm) $$ Hv
  iapply (Rounds.wp_copy_pointsTo 𝒱₀ ER (Rd m) (d : Thread nD τ) none (κ := K (d, .xin c)) (sem := sl (.xin c))
      (src := pc xM d (yS c)) (dst := pc vM d (yS c)) (d := 0) (r := 0) (q := fullShare) (fs := X m d) (fd := fv)
      (mem_duty0 m d (.xin c) rfl) () (tot (.xin c)) rfl (amount_gc m d (.xin c) 0)
      (by
        rw [payload_gc, x_eq, land_xv]
        show _ ⊢ iprop(vP d (ab d (yS c)) fullShare (X m d) ∗ xP d (ab d (yS c)) fullShare (X m d) ∗ emp)
        iintro ⟨H1, H2⟩
        isplitl [H1]; · iexact H1
        isplitl [H2]; · iexact H2
        iempintro)) $$ [Hx Hv Ht]
  · isplitr; · iapply (recs_inv m K d (.xin c)); iexact HI
    isplitl [Hx]; · iexact Hx
    isplitl [Hv]; · iexact Hv
    isplitl [Ht]; · iexact Ht
    iapply (recs_reached m K d (.xin c)); iexact HI
  iintro Hc
  iapply Hk $$ [Hc] HO
  isplitl [Hc]; · iexact Hc
  iempintro

/-- A signal on a barrier, handing over what its payload lists. -/
theorem signal_step (k : Cell) (hk : isB k = true) (n : Dev nD) (t : Fin 3) (s : Sem sig) (hs : sl k = .reg s) :
    iprop(recs m K ∗ dutyTok ER (gc n k) 0 t ∗ pay m n k t ∗ owes (d : Thread nD τ) (tallyAt (gc n k) () 1 + O) W)
      ⊢ iprop((owes (d : Thread nD τ) O W -∗ wpd d (f ⟨⟩) Q) -∗ wpd d (.op (.semSignal (n, .tc) s (1#32).toInt) f) Q) := by
  have hg : gc n k = ((n : Thread nD τ), .reg s) := by rw [gc, hs]
  have h1 : one k = 1 := by unfold one; rw [hk, if_pos rfl]
  have hi := recs_inv m K n k
  have hr := recs_reached m K n k
  have hd := mem_duty m n k t (by unfold dts; rw [hk, if_pos rfl]; exact Finset.mem_univ t)
  have ha := (amount_gc m n k t).trans h1
  rw [← payload_gc]
  simp only [hg] at hi hr hd ha ⊢
  iintro ⟨#HI, Ht, Hp, HO⟩ Hk
  iapply (Rounds.wp_signal 𝒱₀ ER (Rd m) (d : Thread nD τ) none (dst := (n : Thread nD τ)) (κ := K (n, k))
      (d := t) hd (ha.trans rfl) () O (add_comm _ _)) $$ [HO Ht Hp]
  · isplitr; · iapply hi; iexact HI
    isplitl [HO]; · iexact HO
    isplitl [Ht]; · iexact Ht
    isplitl [Hp]; · iexact Hp
    iapply hr; iexact HI
  iexact Hk

theorem step_sig (t : Fin 3) : StepOf m K d O W f Q (.sig t) := by
  unfold StepOf pre post due interp
  simp only [own_cons, own_nil, res, semSignalWord, Prog.bind_op, Prog.bind_ret, payee]
  rw [devB_eq]
  iintro ⟨#HI, #Hlev, ⟨Ht, Hp, -⟩, HO⟩ Hk
  iapply (signal_step m K d O W f Q .bar rfl (nb d t) t _ rfl) $$ [Ht Hp HO]
  · isplitr; · iexact HI
    isplitl [Ht]; · iexact Ht
    isplitl [Hp]; · iexact Hp
    iexact HO
  iintro HO
  iapply Hk $$ [] HO
  iempintro

theorem step_sig2 (t : Fin 3) : StepOf m K d O W f Q (.sig2 t) := by
  unfold StepOf pre post due interp
  simp only [own_cons, own_nil, res, semSignalWord, Prog.bind_op, Prog.bind_ret, payee]
  rw [devE_eq]
  iintro ⟨#HI, #Hlev, ⟨Ht, -⟩, HO⟩ Hk
  iapply (signal_step m K d O W f Q .sec rfl (nb d t) t _ rfl) $$ [Ht HO]
  · isplitr; · iexact HI
    isplitl [Ht]; · iexact Ht
    isplitr; · iapply (show (iprop(emp) : sProp 𝕄) ⊢ pay m (nb d t) .sec t from BI.Entails.refl _); iempintro
    iexact HO
  iintro HO
  iapply Hk $$ [] HO
  iempintro

theorem step_ys (c : Fin 18) : StepOf m K d O W f Q (.ys c) := by
  unfold StepOf
  rw [interp_ys]
  unfold pre post due ysTo
  simp only [own_cons, own_nil, res, dat, Prog.lift, Prog.bind_op, Prog.bind_ret, payee]
  iintro ⟨#HI, #Hlev, ⟨Hv, ⟨%fc, Hc⟩, Ht, Ht', -⟩, HO⟩ Hk
  ihave Hv := (Entails.of_eq (v_eq d d (yS c) fullShare (X m d)).symm) $$ Hv
  ihave Hc := (Entails.of_eq (c_eq (mate d) d (yS c) fullShare fc).symm) $$ Hc
  iapply (Rounds.wp_send_pointsTo 𝒱₀ ER (Rd m) (d : Thread nD τ) none (κ₁ := K (d, .ys c)) (κ₂ := K (mate d, .yr c))
      (c' := (mate d : Thread nD τ)) (sS := sl (.ys c)) (sem := sl (.yr c)) (src := pc vM d (yS c)) (dst := pc cM d (yS c))
      (d₁ := 0) (d₂ := 0) (r₁ := 0) (r₂ := 0) (q := fullShare) (fs := X m d) (fd := fc)
      (mem_duty0 m d (.ys c) rfl) (mem_duty0 m (mate d) (.yr c) rfl) () () (tot (.ys c)) rfl
      (amount_gc m d (.ys c) 0) (amount_gc m (mate d) (.yr c) 0) O (add_comm _ _)
      (by
        rw [payload_gc, v_eq]
        show _ ⊢ iprop(vP d (ab d (yS c)) fullShare (X m d) ∗ emp)
        exact (sep_emp (PROP := sProp 𝕄)).2)
      (by
        rw [payload_gc, pay_yr, land_vc]
        exact (sep_emp (PROP := sProp 𝕄)).2)) $$ [Hv Hc Ht Ht' HO]
  · isplitr; · iapply (recs_inv m K d (.ys c)); iexact HI
    isplitr; · iapply (recs_inv m K (mate d) (.yr c)); iexact HI
    isplitl [Hv]; · iexact Hv
    isplitl [Hc]; · iexact Hc
    isplitl [HO]; · iexact HO
    isplitl [Ht]; · iexact Ht
    isplitr; · iapply (recs_reached m K d (.ys c)); iexact HI
    isplitl [Ht']; · iexact Ht'
    iapply (recs_reached m K (mate d) (.yr c)); iexact HI
  iintro ⟨Hcr, HO⟩
  iapply Hk $$ [Hcr] HO
  isplitl [Hcr]; · iexact Hcr
  iempintro

theorem step_od (c : Fin 18) : StepOf m K d O W f Q (.od c) := by
  unfold StepOf pre post due interp
  simp only [own_cons, own_nil, res, dat, zero_add, Prog.lift, Prog.bind_op, Prog.bind_ret, payee]
  iintro ⟨#HI, #Hlev, ⟨Hv, ⟨%fo, Ho⟩, Ht, -⟩, HO⟩ Hk
  ihave Hv := (Entails.of_eq (v_eq d d (yS c) (sh3 0) (Sm m d)).symm) $$ Hv
  ihave Ho := (Entails.of_eq (o_eq d d (yS c) fullShare fo).symm) $$ Ho
  iapply (Rounds.wp_copy_pointsTo 𝒱₀ ER (Rd m) (d : Thread nD τ) none (κ := K (d, .od c)) (sem := sl (.od c))
      (src := pc vM d (yS c)) (dst := pc oM d (yS c)) (d := 0) (r := 0) (q := sh3 0) (fs := Sm m d) (fd := fo)
      (mem_duty0 m d (.od c) rfl) () (tot (.od c)) rfl (amount_gc m d (.od c) 0)
      (by
        rw [payload_gc, v_eq, land_vo]
        show _ ⊢ iprop(oP d (ab d (yS c)) fullShare (Sm m d) ∗ vP d (ab d (yS c)) (sh3 0) (Sm m d) ∗ emp)
        iintro ⟨H1, H2⟩
        isplitl [H1]; · iexact H1
        isplitl [H2]; · iexact H2
        iempintro)) $$ [Hv Ho Ht]
  · isplitr; · iapply (recs_inv m K d (.od c)); iexact HI
    isplitl [Hv]; · iexact Hv
    isplitl [Ho]; · iexact Ho
    isplitl [Ht]; · iexact Ht
    iapply (recs_reached m K d (.od c)); iexact HI
  iintro Hc
  iapply Hk $$ [Hc] HO
  isplitl [Hc]; · iexact Hc
  iempintro

theorem step_rs_first (b : Bool) (c : Fin 17) (h : c.val < 13) : StepOf m K d O W f Q (.rs b c) := by
  unfold StepOf
  rw [interp_rs_first d b c h]
  have hr : rsrc b c = .sh (if b then 2 else 1) (rc b c) := if_pos h
  unfold pre post due rsTo
  simp only [hr, own_cons, own_nil, res, dat, Prog.lift, Prog.bind_op, Prog.bind_ret, payee]
  rw [← rO_first b c h]
  iintro ⟨#HI, #Hlev, ⟨Hv, ⟨%fo, Ho⟩, Ht, Ht', -⟩, HO⟩ Hk
  ihave Hv := (Entails.of_eq (v_eq d d (rO b c) (sh3 (if b then 2 else 1)) (Sm m d)).symm) $$ Hv
  ihave Ho := (Entails.of_eq (o_eq (tgt b d) d (rO b c) fullShare fo).symm) $$ Ho
  iapply (Rounds.wp_send_pointsTo 𝒱₀ ER (Rd m) (d : Thread nD τ) none (κ₁ := K (d, .rs b c)) (κ₂ := K (tgt b d, .rr b c))
      (c' := (tgt b d : Thread nD τ)) (sS := sl (.rs b c)) (sem := sl (.rr b c)) (src := pc vM d (rO b c)) (dst := pc oM d (rO b c))
      (d₁ := 0) (d₂ := 0) (r₁ := 0) (r₂ := 0) (q := sh3 (if b then 2 else 1)) (fs := Sm m d) (fd := fo)
      (mem_duty0 m d (.rs b c) rfl) (mem_duty0 m (tgt b d) (.rr b c) rfl) () () (tot (.rs b c)) rfl
      (amount_gc m d (.rs b c) 0) (amount_gc m (tgt b d) (.rr b c) 0) O (add_comm _ _)
      (by
        rw [payload_gc, v_eq]
        show _ ⊢ iprop(dat m d (rsrc b c) ∗ emp)
        rw [hr, rO_first b c h]
        exact (sep_emp (PROP := sProp 𝕄)).2)
      (by
        rw [payload_gc, pay_rr, land_vo, src_tgt_first b c d h]
        exact (sep_emp (PROP := sProp 𝕄)).2)) $$ [Hv Ho Ht Ht' HO]
  · isplitr; · iapply (recs_inv m K d (.rs b c)); iexact HI
    isplitr; · iapply (recs_inv m K (tgt b d) (.rr b c)); iexact HI
    isplitl [Hv]; · iexact Hv
    isplitl [Ho]; · iexact Ho
    isplitl [HO]; · iexact HO
    isplitl [Ht]; · iexact Ht
    isplitr; · iapply (recs_reached m K d (.rs b c)); iexact HI
    isplitl [Ht']; · iexact Ht'
    iapply (recs_reached m K (tgt b d) (.rr b c)); iexact HI
  iintro ⟨Hcr, HO⟩
  iapply Hk $$ [Hcr] HO
  isplitl [Hcr]; · iexact Hcr
  iempintro

theorem step_rs_pass (b : Bool) (c : Fin 17) (h : ¬ c.val < 13) : StepOf m K d O W f Q (.rs b c) := by
  unfold StepOf
  rw [interp_rs_pass d b c h]
  have hr : rsrc b c = .ri b (fs b c) := if_neg h
  unfold pre post due rsOn
  simp only [hr, own_cons, own_nil, res, dat, Prog.lift, Prog.bind_op, Prog.bind_ret, payee]
  rw [← rO_pass b c h]
  iintro ⟨#HI, #Hlev, ⟨Hv, ⟨%fo, Ho⟩, Ht, Ht', -⟩, HO⟩ Hk
  ihave Hv := (Entails.of_eq (o_eq d d (rO b c) fullShare (Sm m (src b (fs b c) d))).symm) $$ Hv
  ihave Ho := (Entails.of_eq (o_eq (tgt b d) d (rO b c) fullShare fo).symm) $$ Ho
  iapply (Rounds.wp_send_pointsTo 𝒱₀ ER (Rd m) (d : Thread nD τ) none (κ₁ := K (d, .rs b c)) (κ₂ := K (tgt b d, .rr b c))
      (c' := (tgt b d : Thread nD τ)) (sS := sl (.rs b c)) (sem := sl (.rr b c)) (src := pc oM d (rO b c)) (dst := pc oM d (rO b c))
      (d₁ := 0) (d₂ := 0) (r₁ := 0) (r₂ := 0) (q := fullShare) (fs := Sm m (src b (fs b c) d)) (fd := fo)
      (mem_duty0 m d (.rs b c) rfl) (mem_duty0 m (tgt b d) (.rr b c) rfl) () () (tot (.rs b c)) rfl
      (amount_gc m d (.rs b c) 0) (amount_gc m (tgt b d) (.rr b c) 0) O (add_comm _ _)
      (by
        rw [payload_gc, o_eq]
        show _ ⊢ iprop(dat m d (rsrc b c) ∗ emp)
        rw [hr, rO_pass b c h]
        exact (sep_emp (PROP := sProp 𝕄)).2)
      (by
        rw [payload_gc, pay_rr, land_oo, src_tgt_pass b c d h]
        exact (sep_emp (PROP := sProp 𝕄)).2)) $$ [Hv Ho Ht Ht' HO]
  · isplitr; · iapply (recs_inv m K d (.rs b c)); iexact HI
    isplitr; · iapply (recs_inv m K (tgt b d) (.rr b c)); iexact HI
    isplitl [Hv]; · iexact Hv
    isplitl [Ho]; · iexact Ho
    isplitl [HO]; · iexact HO
    isplitl [Ht]; · iexact Ht
    isplitr; · iapply (recs_reached m K d (.rs b c)); iexact HI
    isplitl [Ht']; · iexact Ht'
    iapply (recs_reached m K (tgt b d) (.rr b c)); iexact HI
  iintro ⟨Hcr, HO⟩
  iapply Hk $$ [Hcr] HO
  isplitl [Hcr]; · iexact Hcr
  iempintro

/-- What the store of an addition writes. -/
theorem add_stored (c : Fin 18) :
    shapeCast ⟨2, szs (yS c).2⟩ (addf (s := ⟨2, szs (yS c).2⟩) (φ := .f32) ((vM.access (rl d c)).read (Elt F) (X m d))
        ((cM.access (rl d c)).read (Elt F) (X m (mate d)))) rfl =
      (vM.access (rl d c)).read (Elt F) (Sm m d) := by
  funext x
  unfold shapeCast
  rw [Shape.reshapeEquiv_self]
  rfl

theorem step_add (c : Fin 18) : StepOf m K d O W f Q (.add c) := by
  unfold StepOf pre post due interp
  simp only [own_cons, own_nil, res, dat, zero_add, Prog.lift, Prog.bind_op, Prog.bind_ret]
  iintro ⟨#HI, #Hlev, ⟨Hv, Hc, -⟩, HO⟩ Hk
  have hv : (vM.access (rl d c)).set ⊆ reg (ab d (yS c)) := (acc_v d c).subset
  have hc : (cM.access (rl d c)).set ⊆ reg (ab d (yS c)) := (acc_c d c).subset
  unfold vP cP
  iapply (wp_load_rect 𝒱₀ (d : Thread nD τ) none Set.univ (m := vM) (r := rl d c) hv) $$ Hv; iintro Hv
  iapply (wp_load_rect 𝒱₀ (d : Thread nD τ) none Set.univ (m := cM) (r := rl d c) hc) $$ Hc; iintro Hc
  iapply (wp_load_rect 𝒱₀ (d : Thread nD τ) none Set.univ (m := vM) (r := rl d c) hv) $$ Hv; iintro Hv
  iapply (wp_store 𝒱₀ (d : Thread nD τ) none Set.univ (m := vM) (r := rl d c) (Mk := Finset.univ) hv) $$ Hv; iintro Hv
  rw [add_stored]
  ihave Hv := (Entails.of_eq (pointsTo_congr (g := Sm m d) (fun i hi =>
      write_read_of (vM.access (rl d c)) (X m d) (Sm m d) i (by rw [acc_v]; exact hi)))) $$ Hv
  ihave Hv := (Ring.pointsTo_thirds fullShare (Sm m d)).1 $$ Hv
  icases Hv with ⟨H0, H1, H2⟩
  iapply Hk $$ [H0 H1 H2 Hc] HO
  isplitl [H0]; · iexact H0
  isplitl [H1]; · iexact H1
  isplitl [H2]; · iexact H2
  isplitl [Hc]; · iexact Hc
  iempintro

/-- An operation that waits. -/
theorem step_wait (o : Op) (k : Cell) (w : TpuEff nD τ sig (Elt F) Λ₀ .tc PUnit) (hpre : pre o = waitPre k) (hpost : post o = waitPost k)
    (hdue : due d o = 0) (hi : interp A0 d o >>= f = .op w f)
    (hw : ∀ R : PUnit → sProp 𝕄, wpE (defs₀ (F := F)) 𝒱₀ (d : Thread nD τ) none Set.univ w R = waitSpec (d : Thread nD τ) Set.univ (sl k) (tot k) R)
    (hO : Above k O) : StepOf m K d O W f Q o := by
  unfold StepOf
  rw [hpre, hpost, hdue, zero_add, hi]
  exact wait_step m K d k w hw O W hO f Q

/-- Any operation. -/
theorem step (o : Op) (hO : ∀ k, wcell o = some k → Above k O) : StepOf m K d O W f Q o := by
  cases o with
  | xin c => exact step_xin m K d O W f Q c
  | sig t => exact step_sig m K d O W f Q t
  | ys c => exact step_ys m K d O W f Q c
  | add c => exact step_add m K d O W f Q c
  | od c => exact step_od m K d O W f Q c
  | sig2 t => exact step_sig2 m K d O W f Q t
  | rs b c =>
    by_cases h : c.val < 13
    · exact step_rs_first m K d O W f Q b c h
    · exact step_rs_pass m K d O W f Q b c h
  | bar => exact step_wait m K d O W f Q .bar .bar _ rfl rfl rfl rfl (wpE_semWait_eq 𝒱₀ (d : Thread nD τ) none Set.univ) (hO _ rfl)
  | bar2 => exact step_wait m K d O W f Q .bar2 .sec _ rfl rfl rfl rfl (wpE_semWait_eq 𝒱₀ (d : Thread nD τ) none Set.univ) (hO _ rfl)
  | xw c => exact step_wait m K d O W f Q (.xw c) (.xin c) _ rfl rfl rfl rfl (wpE_waitDma2_eq 𝒱₀ (d : Thread nD τ) none Set.univ) (hO _ rfl)
  | yr c => exact step_wait m K d O W f Q (.yr c) (.yr c) _ rfl rfl rfl rfl (wpE_waitDma2_eq 𝒱₀ (d : Thread nD τ) none Set.univ) (hO _ rfl)
  | yw c => exact step_wait m K d O W f Q (.yw c) (.ys c) _ rfl rfl rfl rfl (wpE_waitDma2_eq 𝒱₀ (d : Thread nD τ) none Set.univ) (hO _ rfl)
  | rw b c => exact step_wait m K d O W f Q (.rw b c) (.rr b c) _ rfl rfl rfl rfl (wpE_waitDma2_eq 𝒱₀ (d : Thread nD τ) none Set.univ) (hO _ rfl)
  | ow c => exact step_wait m K d O W f Q (.ow c) (.od c) _ rfl rfl rfl rfl (wpE_waitDma2_eq 𝒱₀ (d : Thread nD τ) none Set.univ) (hO _ rfl)
  | rd b c =>
    by_cases h : c.val < 13
    · exact step_wait m K d O W f Q (.rd b c) (.rs b c)
        (.waitDma2 (s17 (A0.rs b) c) (pc oM d (rO b c)) (pc vM d (rO b c)) (View.wordExact_bits rfl) (View.wordExact_bits rfl)) rfl rfl rfl
        ((congrArg (fun P => P >>= f) (if_pos h : interp (F := F) A0 d (.rd b c) = _)).trans rfl)
        (wpE_waitDma2_eq 𝒱₀ (d : Thread nD τ) none Set.univ) (hO _ rfl)
    · exact step_wait m K d O W f Q (.rd b c) (.rs b c)
        (.waitDma2 (s17 (A0.rs b) c) (pc oM d (rO b c)) (pc oM d (rO b c)) (View.wordExact_bits rfl) (View.wordExact_bits rfl)) rfl rfl rfl
        ((congrArg (fun P => P >>= f) (if_neg h : interp (F := F) A0 d (.rd b c) = _)).trans rfl)
        (wpE_waitDma2_eq 𝒱₀ (d : Thread nD τ) none Set.univ) (hO _ rfl)

end Cert.AllReduce

end
-- ==== Proof.Run.lean ====
/-
The whole list of operations.

`check` runs a list of operations on a list of resources: each operation takes what `pre` lists and leaves what `post`
lists. `climbs` says that a device waiting on a cell still owes only on cells above it. `run` turns the two into a rule
for the program of the list; `ops_ok` is their value at the kernel's operations, from `start` to `stop`.
-/
module

public import proofs.«01_k».proof.Proof.Moves

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Resources taken and left -/

/-- A list without one of its entries. -/
def take (r : Res) : List Res → Option (List Res)
  | [] => none
  | x :: l => if x = r then some l else (take r l).map (x :: ·)

/-- A list without several. -/
def takeAll : List Res → List Res → Option (List Res)
  | [], l => some l
  | r :: rs, l => (take r l).bind (takeAll rs)

/-- What a list of operations leaves. -/
def check : List Op → List Res → Option (List Res)
  | [], l => some l
  | o :: os, l => (takeAll (pre o) l).bind fun l' => check os (post o ++ l')

theorem own_append (d : Dev nD) (l l' : List Res) : own m d (l ++ l') ⊣⊢ iprop(own m d l ∗ own m d l') := by
  unfold own; rw [List.map_append]; exact lsep_append _ _

theorem take_sound (d : Dev nD) (r : Res) (l l' : List Res) (h : take r l = some l') :
    own m d l ⊢ iprop(res m d r ∗ own m d l') := by
  induction l generalizing l' with
  | nil => cases h
  | cons x l ih =>
    unfold take at h
    by_cases hx : x = r
    · rw [if_pos hx] at h; cases h; subst hx; exact BI.Entails.refl _
    · rw [if_neg hx] at h
      obtain ⟨l₁, h₁, rfl⟩ := Option.map_eq_some_iff.mp h
      have := ih l₁ h₁
      rw [own_cons, own_cons]
      iintro ⟨Hx, Hl⟩
      ihave Hl := this $$ Hl
      icases Hl with ⟨Hr, Hl⟩
      isplitl [Hr]; · iexact Hr
      isplitl [Hx] <;> iassumption

theorem takeAll_sound (d : Dev nD) (rs l l' : List Res) (h : takeAll rs l = some l') :
    own m d l ⊢ iprop(own m d rs ∗ own m d l') := by
  induction rs generalizing l with
  | nil =>
    unfold takeAll at h; cases h
    exact (BI.emp_sep (M := MT nD τ sig Unit (Elt F) ℕ UU ℕ)).2
  | cons r rs ih =>
    unfold takeAll at h
    obtain ⟨l₁, h₁, h₂⟩ := Option.bind_eq_some_iff.mp h
    have t₁ := take_sound m d r l l₁ h₁
    have t₂ := ih l₁ h₂
    rw [own_cons]
    iintro H
    ihave H := t₁ $$ H
    icases H with ⟨Hr, H⟩
    ihave H := t₂ $$ H
    icases H with ⟨Hs, H⟩
    isplitl [Hr Hs]
    · isplitl [Hr] <;> iassumption
    iexact H

/-! ## Levels -/

/-- The level of the cell an operation pays on for another device. -/
def dueLev : Op → Option ℕ
  | .sig _ => some 1 | .ys _ => some 2 | .rs _ c => some (3 + c.val) | .sig2 _ => some 100 | _ => none

/-- Whether an operation, if it waits, waits below all that the list pays on. -/
def below (o : Op) (os : List Op) : Bool :=
  match wcell o with
  | none => true
  | some k => os.all fun o' => match dueLev o' with
    | none => true
    | some n => Nat.blt (lev k) n

/-- Whether that holds all along a list. -/
def climbs : List Op → Bool
  | [] => true
  | o :: os => below o os && climbs os

theorem due_at (d : Dev nD) (o : Op) (g : GSem nD τ sig) (u : Unit) (h : 0 < due d o g u) :
    ∃ d' k, g = gc d' k ∧ dueLev o = some (lev k) := by
  have key (d' : Dev nD) (k : Cell) (n : ℕ) (h : 0 < tallyAt (gc d' k) () n g u) : g = gc d' k := by
    rw [tallyAt_apply] at h
    by_contra hg
    rw [if_neg fun h' => hg h'.1] at h
    exact Nat.lt_irrefl 0 h
  cases o with
  | sig t => exact ⟨_, _, key _ _ _ h, rfl⟩
  | ys c => exact ⟨_, _, key _ _ _ h, rfl⟩
  | rs b c => exact ⟨_, _, key _ _ _ h, rfl⟩
  | sig2 t => exact ⟨_, _, key _ _ _ h, rfl⟩
  | _ => exact absurd h (Nat.lt_irrefl 0)

theorem dueSum_at (d : Dev nD) (os : List Op) (g : GSem nD τ sig) (u : Unit) (h : 0 < dueSum d os g u) :
    ∃ o ∈ os, 0 < due d o g u := by
  induction os with
  | nil => exact absurd h (Nat.lt_irrefl 0)
  | cons o os ih =>
    unfold dueSum at h
    rw [Pi.add_apply, Finsupp.add_apply] at h
    by_cases h0 : 0 < due d o g u
    · exact ⟨o, List.mem_cons_self .., h0⟩
    · obtain ⟨o', ho', h'⟩ := ih (by omega)
      exact ⟨o', List.mem_cons_of_mem _ ho', h'⟩

theorem above_of_below (d : Dev nD) (o : Op) (os : List Op) (h : below o os = true) (k : Cell) (hk : wcell o = some k) :
    Above k (dueSum d os) := by
  intro g u hg
  obtain ⟨o', ho', h'⟩ := dueSum_at d os g u hg
  obtain ⟨d', k', rfl, hl⟩ := due_at d o' g u h'
  refine ⟨d', k', rfl, ?_⟩
  unfold below at h
  rw [hk] at h
  have := List.all_eq_true.mp h o' ho'
  rw [hl] at this
  exact (Nat.blt_eq).mp this

/-! ## The program of a list -/

/-- A list of operations that `check` takes from `l` to `l'`. -/
theorem run (K : Dev nD × Cell → ℕ) (d : Dev nD) (os : List Op) (l l' : List Res) (hc : check os l = some l') (hl : climbs os = true)
    (W : Waits sig Unit) (Q : PUnit.{1} → sProp 𝕄) :
    iprop(recs m K ∗ levAts L lv ∗ own m d l ∗ owes (d : Thread nD τ) (dueSum d os) W)
      ⊢ iprop((∀ W', own m d l' -∗ owes (d : Thread nD τ) 0 W' -∗ Q ⟨⟩) -∗ wpd d (runOps A0 d os) Q) := by
  induction os generalizing l W with
  | nil =>
    unfold check at hc; cases hc
    have h0 : Q ⟨⟩ ⊢ wpd d (runOps A0 d []) Q := by
      unfold wpd runOps
      rw [Prog.pure_eq_ret, wp_ret]
      exact fupd_intro
    unfold dueSum
    iintro ⟨-, -, Hl, HO⟩ Hk
    iapply h0
    iapply Hk $$ Hl HO
  | cons o os ih =>
    unfold check at hc
    obtain ⟨l₁, h₁, h₂⟩ := Option.bind_eq_some_iff.mp hc
    unfold climbs at hl
    rw [Bool.and_eq_true] at hl
    have t := takeAll_sound m d (pre o) l l₁ h₁
    have s (W : Waits sig Unit) := step m K d (dueSum d os) W (fun _ => runOps A0 d os) Q o (above_of_below d o os hl.1)
    have r (W : Waits sig Unit) := ih (post o ++ l₁) h₂ hl.2 W
    unfold dueSum runOps
    iintro ⟨#HI, #Hlev, Hl, HO⟩ Hk
    ihave Hl := t $$ Hl
    icases Hl with ⟨Hp, Hl⟩
    iapply (s W) $$ [Hp HO]
    · isplitr; · iexact HI
      isplitr; · iexact Hlev
      isplitl [Hp] <;> iassumption
    iintro %W' Hq HO
    iapply (r W') $$ [Hl Hq HO]
    · isplitr; · iexact HI
      isplitr; · iexact Hlev
      isplitl [Hl Hq]
      · iapply (own_append m d (post o) l₁).2
        isplitl [Hq] <;> iassumption
      iexact HO
    iexact Hk

/-! ## The kernel's list -/

/-- The rights to pay that a device starts with. -/
def toks : List (Cell × Fin 3) :=
  cells.flatMap fun k => if isB k then [(k, 0), (k, 1), (k, 2)] else [(k, 0)]

/-- The cells it has the credit to wait on from the start. -/
def creds : List Cell :=
  upto18.map .yr ++ (upto17.map (.rr false) ++ (upto17.map (.rr true) ++ [.bar, .sec]))

/-- All it starts with. -/
def start : List Res :=
  upto18.map (fun c => .h (.xf c)) ++ (upto18.map (fun c => .h (.vu c)) ++ (upto18.map (fun c => .h (.ob c)) ++
  ([.gv 0, .gv 1, .gv 2] ++ (creds.map .cr ++ (cells.map .at0 ++ toks.map (fun x => .tk x.1 x.2))))))

/-- All it ends with. -/
def stop : List Res :=
  cells.map .fin ++ (upto18.map (fun c => .h (.xf c)) ++ (upto18.map (fun c => .h (.cm c)) ++
  (upto18.map (fun c => .h (.sh 0 c)) ++ (upto18.map (fun c => .h (.sh 1 c)) ++ (upto18.map (fun c => .h (.sh 2 c)) ++
  (upto18.map (fun c => .h (.of c)) ++ (upto17.map (fun c => .h (.ri false c)) ++ upto17.map (fun c => .h (.ri true c)))))))))

set_option maxRecDepth 100000 in
theorem ops_ok : ((check ops start).bind (takeAll stop)) = some [] := by decide +kernel

set_option maxRecDepth 100000 in
theorem ops_climb : climbs ops = true := by decide +kernel

/-- The kernel's operations take a device from `start` to `stop`. -/
theorem run_ops (K : Dev nD × Cell → ℕ) (d : Dev nD) (W : Waits sig Unit) (Q : PUnit.{1} → sProp 𝕄) :
    iprop(recs m K ∗ levAts L lv ∗ own m d start ∗ owes (d : Thread nD τ) (dueSum d ops) W)
      ⊢ iprop((∀ W', own m d stop -∗ owes (d : Thread nD τ) 0 W' -∗ Q ⟨⟩) -∗ wpd d (runOps A0 d ops) Q) := by
  obtain ⟨l, h₁, h₂⟩ := Option.bind_eq_some_iff.mp ops_ok
  have r := run m K d ops start l h₁ ops_climb W Q
  have t := takeAll_sound m d stop l [] h₂
  iintro H Hk
  iapply r $$ H
  iintro %W' Hl HO
  ihave Hl := t $$ Hl
  icases Hl with ⟨Hl, -⟩
  iapply Hk $$ Hl HO

end Cert.AllReduce

end
-- ==== Proof.Pieces.lean ====
/-
Whole buffers and their pieces.

A buffer is the eighteen pieces a device exchanges with its mate and the seventeen of each ring direction. A device's
input, its copy of it, the buffer for its mate's pieces and its result start and end whole; in between they are held as
pieces. What a run never touches of the first three is kept aside.
-/
module

public import proofs.«01_k».proof.Proof.Run

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists and finite families -/

section Lists

variable {I : Type}

omit [FloatOps F] in
theorem lsep_finset [DecidableEq I] (Φ : I → sProp 𝕄) (l : List I) (h : l.Nodup) : bigSep l.toFinset Φ = lsep (l.map Φ) := by
  induction l with
  | nil => rw [List.toFinset_nil, bigSep_empty]; rfl
  | cons i l ih =>
    rw [List.nodup_cons] at h
    rw [List.toFinset_cons, bigSep_insert (fun h' => h.1 (List.mem_toFinset.mp h')), ih h.2]
    rfl

omit [FloatOps F] in
/-- A family over a finite type, listed. -/
theorem lsep_univ [Fintype I] [DecidableEq I] (Φ : I → sProp 𝕄) (l : List I) (h : l.Nodup) (hc : ∀ i, i ∈ l) :
    bigSep Finset.univ Φ = lsep (l.map Φ) := by
  rw [← lsep_finset Φ l h]
  congr 1
  exact (Finset.eq_univ_of_forall fun i => List.mem_toFinset.mpr (hc i)).symm

omit [FloatOps F] in
/-- Some of it, listed. -/
theorem lsep_part [Fintype I] [DecidableEq I] (Φ : I → sProp 𝕄) (l : List I) (h : l.Nodup) : bigSep Finset.univ Φ ⊢ lsep (l.map Φ) := by
  rw [← lsep_finset Φ l h]
  exact bigSep_subset (Finset.subset_univ _)

omit [FloatOps F] in
theorem lsep_mono (Φ Ψ : I → sProp 𝕄) (l : List I) (h : ∀ i ∈ l, Φ i ⊢ Ψ i) : lsep (l.map Φ) ⊢ lsep (l.map Ψ) := by
  induction l with
  | nil => exact BI.Entails.refl _
  | cons i l ih =>
    exact BI.sep_mono (h i (List.mem_cons_self ..)) (ih fun j hj => h j (List.mem_cons_of_mem _ hj))

omit [FloatOps F] in
theorem lsep_zip (Φ Ψ : I → sProp 𝕄) (l : List I) :
    iprop(lsep (l.map Φ) ∗ lsep (l.map Ψ)) ⊢ lsep (l.map fun i => iprop(Φ i ∗ Ψ i)) := by
  induction l with
  | nil => exact (BI.emp_sep (M := MT nD τ sig Unit (Elt F) ℕ UU ℕ)).1
  | cons i l ih =>
    show iprop((Φ i ∗ lsep (l.map Φ)) ∗ (Ψ i ∗ lsep (l.map Ψ))) ⊢ iprop((Φ i ∗ Ψ i) ∗ lsep (l.map fun i => iprop(Φ i ∗ Ψ i)))
    iintro ⟨⟨H1, H2⟩, H3, H4⟩
    isplitl [H1 H3]
    · isplitl [H1] <;> iassumption
    iapply ih
    isplitl [H2] <;> iassumption

omit [FloatOps F] in
theorem lsep_unzip (Φ Ψ : I → sProp 𝕄) (l : List I) :
    lsep (l.map fun i => iprop(Φ i ∗ Ψ i)) ⊢ iprop(lsep (l.map Φ) ∗ lsep (l.map Ψ)) := by
  induction l with
  | nil => exact (BI.emp_sep (M := MT nD τ sig Unit (Elt F) ℕ UU ℕ)).2
  | cons i l ih =>
    show iprop((Φ i ∗ Ψ i) ∗ lsep (l.map fun i => iprop(Φ i ∗ Ψ i))) ⊢ iprop((Φ i ∗ lsep (l.map Φ)) ∗ (Ψ i ∗ lsep (l.map Ψ)))
    iintro ⟨⟨H1, H2⟩, H⟩
    ihave H := ih $$ H
    icases H with ⟨H3, H4⟩
    isplitl [H1 H3]
    · isplitl [H1] <;> iassumption
    isplitl [H2] <;> iassumption

end Lists

/-! ## The pieces of a buffer -/

/-- The pieces exchanged with the mate, and those that come from a ring direction. -/
def pA (d : Dev nD) : List Ch := upto18.map fun c => ab d (yS c)
def pB (b : Bool) (d : Dev nD) : List Ch := upto17.map fun c => ab d (rI b c)
def pR (d : Dev nD) : List Ch := pB true d ++ pB false d

theorem pieces_nodup (d : Dev nD) : (pA d ++ pR d).Nodup := by revert d; decide +kernel
theorem mem_pieces (d : Dev nD) (a : Ch) : a ∈ pA d ++ pR d := by revert d a; decide +kernel

section Split

variable {ℓ : Loc nD τ sig} (R : Ch → Finset (Idx ℓ)) (hd : ∀ a b, a ≠ b → Disjoint (R a) (R b)) (hc : Finset.univ.biUnion R = Finset.univ)

include hd hc in
omit [FloatOps F] in
theorem whole_eq (d : Dev nD) (f : Buf (Elt F) ℓ) :
    (ℓ ↦{fullShare} f : sProp 𝕄) = lsep ((pA d ++ pR d).map fun a => ℓ ↦[R a]{fullShare} f) := by
  rw [← lsep_univ _ _ (pieces_nodup d) (mem_pieces d)]
  exact (congrArg (fun s => (ℓ ↦[s]{fullShare} f : sProp 𝕄)) hc).symm.trans
    (pointsTo_biUnion Finset.univ R fun a _ b _ h => hd a b h)

include hd hc in
omit [FloatOps F] in
/-- Pieces at different contents, joined. -/
theorem whole_join {T : Type} [Nonempty T] (fs : T → Buf (Elt F) ℓ) (d : Dev nD) :
    lsep ((pA d ++ pR d).map fun a => iprop(∃ t, ℓ ↦[R a]{fullShare} fs t)) ⊢
      (iprop(∃ g, ⌜∀ i, ∃ t, g i = fs t i⌝ ∗ ℓ ↦{fullShare} g) : sProp 𝕄) := by
  rw [← lsep_univ _ _ (pieces_nodup d) (mem_pieces d)]
  have h₁ := BI.bigSep_exists_pi (Finset.univ : Finset Ch) fun a (t : T) => (ℓ ↦[R a]{fullShare} fs t : sProp 𝕄)
  have h₂ (t : Ch → T) := pointsTo_biUnion_join (Ix := Unit) (Name := ℕ) (U := UU) (Lvl := ℕ) (q := fullShare) Finset.univ R (fun a => fs (t a)) (fs (t ⟨0, 0⟩)) fun a _ b _ h => hd a b h
  rw [hc] at h₂
  iintro H
  ihave H := h₁ $$ H
  icases H with ⟨%t, H⟩
  ihave H := (h₂ t) $$ H
  icases H with ⟨%g, %hg, H⟩
  iexists g
  isplitr
  · ipureintro
    intro i
    have hi : i ∈ Finset.univ.biUnion R := by rw [hc]; exact Finset.mem_univ i
    obtain ⟨a, ha, hi⟩ := Finset.mem_biUnion.mp hi
    exact ⟨t a, hg a ha i hi⟩
  iexact H

end Split

/-! ## The four buffers -/

variable (m : (ℓ : Loc nD τ sig) → Buf (Elt F) ℓ)

instance : Nonempty (Cont F) := ⟨fun _ => (Elt.inhabited F .f32).default⟩

def xW (d : Dev nD) (f : Cont F) : sProp 𝕄 := (d : Thread nD τ).loc main_arg0 ↦{fullShare} f
def oW (d : Dev nD) (f : Cont F) : sProp 𝕄 := (d : Thread nD τ).loc main_v1 ↦{fullShare} f
def cW (d : Dev nD) (f : Cont F) : sProp 𝕄 := (d : Thread nD τ).loc cc0_scratch0 ↦{fullShare} f
def vW (d : Dev nD) (f : Cont F) : sProp 𝕄 := (d : Thread nD τ).loc cc0_scratch1 ↦{fullShare} f

omit [FloatOps F] in
theorem xW_eq (d : Dev nD) (f : Cont F) : xW d f = lsep ((pA d ++ pR d).map fun a => xP d a fullShare f) :=
  whole_eq (ℓ := (d : Thread nD τ).loc main_arg0) reg reg_disjoint reg_cover d f
omit [FloatOps F] in
theorem oW_eq (d : Dev nD) (f : Cont F) : oW d f = lsep ((pA d ++ pR d).map fun a => oP d a fullShare f) :=
  whole_eq (ℓ := (d : Thread nD τ).loc main_v1) reg reg_disjoint reg_cover d f
omit [FloatOps F] in
theorem cW_eq (d : Dev nD) (f : Cont F) : cW d f = lsep ((pA d ++ pR d).map fun a => cP d a fullShare f) :=
  whole_eq (ℓ := (d : Thread nD τ).loc cc0_scratch0) reg reg_disjoint reg_cover d f
omit [FloatOps F] in
theorem vW_eq (d : Dev nD) (f : Cont F) : vW d f = lsep ((pA d ++ pR d).map fun a => vP d a fullShare f) :=
  whole_eq (ℓ := (d : Thread nD τ).loc cc0_scratch1) reg reg_disjoint reg_cover d f

theorem cW_join (d : Dev nD) : lsep ((pA d ++ pR d).map fun a => iprop(∃ f, cP d a fullShare f)) ⊢ iprop(∃ f : Cont F, cW d f) := by
  have h := whole_join (F := F) (ℓ := (d : Thread nD τ).loc cc0_scratch0) reg reg_disjoint reg_cover (T := Cont F) id d
  have e {g : Cont F} : ((d : Thread nD τ).loc cc0_scratch0 ↦{fullShare} g : sProp 𝕄) ⊢ cW d g := BI.Entails.refl _
  refine BI.Entails.trans h ?_
  show (_ : sProp 𝕄) ⊢ _
  iintro ⟨%g, -, H⟩
  iexists g
  iapply e; iexact H
theorem vW_join (d : Dev nD) : lsep ((pA d ++ pR d).map fun a => iprop(∃ f, vP d a fullShare f)) ⊢ iprop(∃ f : Cont F, vW d f) := by
  have h := whole_join (F := F) (ℓ := (d : Thread nD τ).loc cc0_scratch1) reg reg_disjoint reg_cover (T := Cont F) id d
  have e {g : Cont F} : ((d : Thread nD τ).loc cc0_scratch1 ↦{fullShare} g : sProp 𝕄) ⊢ vW d g := BI.Entails.refl _
  refine BI.Entails.trans h ?_
  show (_ : sProp 𝕄) ⊢ _
  iintro ⟨%g, -, H⟩
  iexists g
  iapply e; iexact H

/-- The result is a sum at every index. -/
def Out (g : Cont F) : Prop := ∀ i, ∃ e : Dev nD, g i = Sm m e i

theorem oW_join (d : Dev nD) :
    lsep ((pA d ++ pR d).map fun a => iprop(∃ e : Dev nD, oP d a fullShare (Sm m e))) ⊢ iprop(∃ g : Cont F, ⌜Out m g⌝ ∗ oW d g) :=
  whole_join (F := F) (ℓ := (d : Thread nD τ).loc main_v1) reg reg_disjoint reg_cover (T := Dev nD) (Sm m) d

/-- What a run does not touch. -/
def rest (d : Dev nD) : sProp 𝕄 :=
  iprop(lsep ((pR d).map fun a => xP d a fullShare (X m d)) ∗ lsep ((pR d).map fun a => iprop(∃ f : Cont F, cP d a fullShare f))
    ∗ lsep ((pR d).map fun a => iprop(∃ f : Cont F, vP d a fullShare f)))

omit [FloatOps F] in
theorem lsep_pieces (d : Dev nD) (Φ : Ch → sProp 𝕄) :
    lsep ((pA d ++ pR d).map Φ) ⊣⊢ iprop(lsep ((pA d).map Φ) ∗ lsep ((pR d).map Φ)) := by
  rw [List.map_append]; exact lsep_append _ _

/-- The entries of `start` and `stop`, as pieces. -/
theorem own_xf (d : Dev nD) : own m d (upto18.map fun c => .h (.xf c)) = lsep ((pA d).map fun a => xP d a fullShare (X m d)) := by
  unfold own pA; rw [List.map_map, List.map_map]; rfl
theorem own_vu (d : Dev nD) : own m d (upto18.map fun c => .h (.vu c)) = lsep ((pA d).map fun a => iprop(∃ f : Cont F, vP d a fullShare f)) := by
  unfold own pA; rw [List.map_map, List.map_map]; rfl
theorem own_ob (d : Dev nD) : own m d (upto18.map fun c => .h (.ob c)) = lsep ((pA d).map fun a => iprop(∃ f : Cont F, oP d a fullShare f)) := by
  unfold own pA; rw [List.map_map, List.map_map]; rfl
theorem own_of (d : Dev nD) : own m d (upto18.map fun c => .h (.of c)) = lsep ((pA d).map fun a => oP d a fullShare (Sm m d)) := by
  unfold own pA; rw [List.map_map, List.map_map]; rfl
theorem own_cm (d : Dev nD) : own m d (upto18.map fun c => .h (.cm c)) = lsep ((pA d).map fun a => cP d a fullShare (X m (mate d))) := by
  unfold own pA; rw [List.map_map, List.map_map]; rfl
theorem own_sh (s : Fin 3) (d : Dev nD) : own m d (upto18.map fun c => .h (.sh s c)) = lsep ((pA d).map fun a => vP d a (sh3 s) (Sm m d)) := by
  unfold own pA; rw [List.map_map, List.map_map]; rfl

theorem own_ri (b : Bool) (d : Dev nD) :
    own m d (upto17.map fun c => .h (.ri b c)) ⊢ lsep ((pB b d).map fun a => iprop(∃ e : Dev nD, oP d a fullShare (Sm m e))) := by
  unfold own pB; rw [List.map_map, List.map_map]
  refine lsep_mono _ _ _ fun c _ => ?_
  show oP d (ab d (rI b c)) fullShare (Sm m (src b c d)) ⊢ iprop(∃ e : Dev nD, oP d (ab d (rI b c)) fullShare (Sm m e))
  iintro H
  iexists src b c d
  iexact H

/-- What the first barrier's signals hand over is the device's own. -/
theorem gv_mate (d : Dev nD) : res m d (.gv 0) = lsep ((pA d).map fun a => iprop(∃ f : Cont F, cP d a fullShare f)) := by
  show pay m (mate d) .bar 0 = _
  unfold pay pA
  show lsep ((upto18.map Dat.cb).map _) = _
  rw [List.map_map, List.map_map]
  congr 1
  refine List.map_congr_left fun c _ => ?_
  show iprop(∃ f, cP (mate (mate d)) (ab (mate d) (yS c)) fullShare f) = iprop(∃ f, cP d (ab d (yS c)) fullShare f)
  rw [mate_mate, ab_mate]

theorem gv_ring (b : Bool) (t : Fin 3) (d : Dev nD) (ht : tgt b (nb d t) = d) (hb : barD t = upto17.map (.rdst b)) :
    res m d (.gv t) = lsep ((pB b d).map fun a => iprop(∃ f : Cont F, oP d a fullShare f)) := by
  show pay m (nb d t) .bar t = _
  unfold pay pB
  show lsep ((barD t).map _) = _
  rw [hb, List.map_map, List.map_map]
  congr 1
  refine List.map_congr_left fun c _ => ?_
  show iprop(∃ f, oP (tgt b (nb d t)) (ab (nb d t) (rO b c)) fullShare f) = iprop(∃ f, oP d (ab d (rI b c)) fullShare f)
  rw [← ab_tgt, ht]

theorem gv_nxt (d : Dev nD) : res m d (.gv 1) = lsep ((pB true d).map fun a => iprop(∃ f : Cont F, oP d a fullShare f)) :=
  gv_ring m true 1 d (prv_nxt d) rfl
theorem gv_prv (d : Dev nD) : res m d (.gv 2) = lsep ((pB false d).map fun a => iprop(∃ f : Cont F, oP d a fullShare f)) :=
  gv_ring m false 2 d (nxt_prv d) rfl

/-- The buffers part of `start` and of `stop`. -/
def startB : List Res :=
  upto18.map (fun c => .h (.xf c)) ++ (upto18.map (fun c => .h (.vu c)) ++ (upto18.map (fun c => .h (.ob c)) ++ [.gv 0, .gv 1, .gv 2]))
def stopB : List Res :=
  upto18.map (fun c => .h (.xf c)) ++ (upto18.map (fun c => .h (.cm c)) ++
  (upto18.map (fun c => .h (.sh 0 c)) ++ (upto18.map (fun c => .h (.sh 1 c)) ++ (upto18.map (fun c => .h (.sh 2 c)) ++
  (upto18.map (fun c => .h (.of c)) ++ (upto17.map (fun c => .h (.ri false c)) ++ upto17.map (fun c => .h (.ri true c))))))))

omit [FloatOps F] in
theorem lsep_some (l : List Ch) (P : Ch → Cont F → sProp 𝕄) (f : Cont F) :
    lsep (l.map fun a => P a f) ⊢ lsep (l.map fun a => iprop(∃ f, P a f)) := by
  refine lsep_mono _ _ _ fun a _ => ?_
  iintro H
  iexists f
  iexact H

/-- The whole buffers, in pieces. -/
theorem break_up (d : Dev nD) (fo fc fv : Cont F) :
    iprop(xW d (X m d) ∗ oW d fo ∗ cW d fc ∗ vW d fv) ⊢ iprop(own m d startB ∗ rest m d) := by
  have e : own m d startB ⊣⊢ iprop(own m d (upto18.map fun c => .h (.xf c)) ∗ own m d (upto18.map fun c => .h (.vu c)) ∗
      own m d (upto18.map fun c => .h (.ob c)) ∗ own m d [.gv 0, .gv 1, .gv 2]) := by
    unfold startB
    have h₁ := own_append m d (upto18.map fun c => .h (.xf c)) (upto18.map (fun c => .h (.vu c)) ++ (upto18.map (fun c => .h (.ob c)) ++ [.gv 0, .gv 1, .gv 2]))
    have h₂ := own_append m d (upto18.map fun c => .h (.vu c)) (upto18.map (fun c => .h (.ob c)) ++ [.gv 0, .gv 1, .gv 2])
    have h₃ := own_append m d (upto18.map fun c => .h (.ob c)) [.gv 0, .gv 1, .gv 2]
    exact ⟨h₁.1.trans (sep_mono_right (h₂.1.trans (sep_mono_right h₃.1))), (sep_mono_right ((sep_mono_right h₃.2).trans h₂.2)).trans h₁.2⟩
  refine BI.Entails.trans ?_ (sep_mono_left e.2)
  have so := (lsep_pieces d fun a => iprop(∃ f : Cont F, oP d a fullShare f)).1
  have sr : lsep ((pR d).map fun a => iprop(∃ f : Cont F, oP d a fullShare f)) ⊣⊢
      iprop(lsep ((pB true d).map fun a => iprop(∃ f : Cont F, oP d a fullShare f)) ∗
        lsep ((pB false d).map fun a => iprop(∃ f : Cont F, oP d a fullShare f))) := by
    unfold pR; rw [List.map_append]; exact lsep_append _ _
  rw [own_xf, own_vu, own_ob, own_cons, own_cons, own_cons, own_nil, gv_mate, gv_nxt, gv_prv, xW_eq, oW_eq, cW_eq, vW_eq]
  unfold rest
  have o' := lsep_some (pA d ++ pR d) (fun a f => oP d a fullShare f) fo
  have c' := lsep_some (pA d ++ pR d) (fun a f => cP d a fullShare f) fc
  have v' := lsep_some (pA d ++ pR d) (fun a f => vP d a fullShare f) fv
  have sx := (lsep_pieces d fun a => xP d a fullShare (X m d)).1
  have sc := (lsep_pieces d fun a => iprop(∃ f : Cont F, cP d a fullShare f)).1
  have sv := (lsep_pieces d fun a => iprop(∃ f : Cont F, vP d a fullShare f)).1
  show (_ : sProp 𝕄) ⊢ _
  iintro ⟨Hx, Ho, Hc, Hv⟩
  ihave Hx := sx $$ Hx
  icases Hx with ⟨Hx, Hxr⟩
  ihave Ho := o' $$ Ho
  ihave Ho := so $$ Ho
  icases Ho with ⟨Ho, Hor⟩
  ihave Hor := sr.1 $$ Hor
  icases Hor with ⟨Hot, Hof⟩
  ihave Hc := c' $$ Hc
  ihave Hc := sc $$ Hc
  icases Hc with ⟨Hc, Hcr⟩
  ihave Hv := v' $$ Hv
  ihave Hv := sv $$ Hv
  icases Hv with ⟨Hv, Hvr⟩
  isplitl [Hx Ho Hot Hof Hc Hv]
  · isplitl [Hx]; · iexact Hx
    isplitl [Hv]; · iexact Hv
    isplitl [Ho]; · iexact Ho
    isplitl [Hc]; · iexact Hc
    isplitl [Hot]; · iexact Hot
    isplitl [Hof]; · iexact Hof
    iempintro
  isplitl [Hxr]; · iexact Hxr
  isplitl [Hcr] <;> iassumption

/-- The pieces, back to whole buffers. -/
theorem put_together (d : Dev nD) :
    iprop(own m d stopB ∗ rest m d) ⊢
      iprop(xW d (X m d) ∗ (∃ g : Cont F, ⌜Out m g⌝ ∗ oW d g) ∗ (∃ f : Cont F, cW d f) ∗ ∃ f : Cont F, vW d f) := by
  have e : own m d stopB ⊢ iprop(own m d (upto18.map fun c => .h (.xf c)) ∗ own m d (upto18.map fun c => .h (.cm c)) ∗
      own m d (upto18.map fun c => .h (.sh 0 c)) ∗ own m d (upto18.map fun c => .h (.sh 1 c)) ∗ own m d (upto18.map fun c => .h (.sh 2 c)) ∗
      own m d (upto18.map fun c => .h (.of c)) ∗ own m d (upto17.map fun c => .h (.ri false c)) ∗ own m d (upto17.map fun c => .h (.ri true c))) := by
    unfold stopB
    refine (own_append m d _ _).1.trans (sep_mono_right ?_)
    refine (own_append m d _ _).1.trans (sep_mono_right ?_)
    refine (own_append m d _ _).1.trans (sep_mono_right ?_)
    refine (own_append m d _ _).1.trans (sep_mono_right ?_)
    refine (own_append m d _ _).1.trans (sep_mono_right ?_)
    refine (own_append m d _ _).1.trans (sep_mono_right ?_)
    exact (own_append m d _ _).1
  refine BI.Entails.trans (sep_mono_left e) ?_
  have rf := own_ri m false d
  have rt := own_ri m true d
  rw [own_xf, own_cm, own_sh, own_sh, own_sh, own_of, xW_eq]
  unfold rest
  have cs := lsep_some (pA d) (fun a f => cP d a fullShare f) (X m (mate d))
  have sx := (lsep_pieces d fun a => xP d a fullShare (X m d)).2
  have sc := (lsep_pieces d fun a => iprop(∃ f : Cont F, cP d a fullShare f)).2
  have sv := (lsep_pieces d fun a => iprop(∃ f : Cont F, vP d a fullShare f)).2
  have so := (lsep_pieces d fun a => iprop(∃ e : Dev nD, oP d a fullShare (Sm m e))).2
  have sr : iprop(lsep ((pB true d).map fun a => iprop(∃ e : Dev nD, oP d a fullShare (Sm m e))) ∗
      lsep ((pB false d).map fun a => iprop(∃ e : Dev nD, oP d a fullShare (Sm m e)))) ⊢
      lsep ((pR d).map fun a => iprop(∃ e : Dev nD, oP d a fullShare (Sm m e))) := by
    unfold pR; rw [List.map_append]; exact (lsep_append _ _).2
  have of' : lsep ((pA d).map fun a => oP d a fullShare (Sm m d)) ⊢ lsep ((pA d).map fun a => iprop(∃ e : Dev nD, oP d a fullShare (Sm m e))) := by
    refine lsep_mono _ _ _ fun a _ => ?_
    iintro H
    iexists d
    iexact H
  have z₁ := lsep_zip (fun a => vP d a (sh3 1) (Sm m d)) (fun a => vP d a (sh3 2) (Sm m d)) (pA d)
  have z₀ := lsep_zip (fun a => vP d a (sh3 0) (Sm m d)) (fun a => iprop(vP d a (sh3 1) (Sm m d) ∗ vP d a (sh3 2) (Sm m d))) (pA d)
  have z : lsep ((pA d).map fun a => iprop(vP d a (sh3 0) (Sm m d) ∗ (vP d a (sh3 1) (Sm m d) ∗ vP d a (sh3 2) (Sm m d)))) ⊢
      lsep ((pA d).map fun a => iprop(∃ f : Cont F, vP d a fullShare f)) := by
    refine lsep_mono _ _ _ fun a _ => ?_
    have h : iprop(vP d a (sh3 0) (Sm m d) ∗ (vP d a (sh3 1) (Sm m d) ∗ vP d a (sh3 2) (Sm m d))) ⊢ vP d a fullShare (Sm m d) := by
      unfold vP sh3
      exact (Ring.pointsTo_thirds fullShare _).2
    iintro H
    ihave H := h $$ H
    iexists Sm m d
    iexact H
  have jo := oW_join m d
  have jc := cW_join (F := F) d
  have jv := vW_join (F := F) d
  show (_ : sProp 𝕄) ⊢ _
  iintro ⟨⟨Hx, Hc, H0, H1, H2, Ho, Hf, Ht⟩, Hxr, Hcr, Hvr⟩
  isplitl [Hx Hxr]
  · iapply sx
    isplitl [Hx] <;> iassumption
  isplitl [Ho Hf Ht]
  · iapply jo
    iapply so
    isplitl [Ho]
    · iapply of'; iexact Ho
    iapply sr
    isplitl [Ht]
    · iapply rt; iexact Ht
    iapply rf; iexact Hf
  isplitl [Hc Hcr]
  · iapply jc
    iapply sc
    isplitl [Hc]
    · iapply cs; iexact Hc
    iexact Hcr
  iapply jv
  iapply sv
  isplitr [Hvr]
  · iapply z
    iapply z₀
    isplitl [H0]; · iexact H0
    iapply z₁
    isplitl [H1] <;> iassumption
  iexact Hvr

end Cert.AllReduce

end
-- ==== Proof.Credits.lean ====
/-
The credit a device is launched with.

Every unit a device owes on a cell is credit its owner may wait with. For each cell that other devices pay on, what all
of them owe is the amount of its round.
-/
module

public import proofs.«01_k».proof.Proof.Pieces

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The duty an operation pays on another device's cell. -/
def dueCell : Op → Option (Cell × Fin 3)
  | .sig t => some (.bar, t) | .ys c => some (.yr c, 0) | .rs b c => some (.rr b c, 0) | .sig2 t => some (.sec, t) | _ => none

theorem due_some (d : Dev nD) (o : Op) (k : Cell) (t : Fin 3) (h : dueCell o = some (k, t)) : due d o = tallyAt (gc (payee d k t) k) () (one k) := by
  cases o <;> cases h <;> rfl
theorem due_none (d : Dev nD) (o : Op) (h : dueCell o = none) : due d o = 0 := by
  cases o <;> first | rfl | cases h

theorem payee_inj (k : Cell) (t : Fin 3) : Function.Injective fun d : Dev nD => payee d k t := by
  have hm : Function.Injective mate := fun a b h => by rw [← mate_mate a, h, mate_mate]
  have ht (b : Bool) : Function.Injective (tgt b) := fun x y h => by
    have := congrArg (tgt (!b)) h
    rwa [tgt_not_tgt, tgt_not_tgt] at this
  have hn : Function.Injective fun d : Dev nD => nb d t := by
    fin_cases t
    · exact hm
    · exact ht false
    · exact ht true
  cases k <;> first | exact hm | exact ht _ | exact hn | exact Function.injective_id

/-- What all devices owe on a cell for one operation. -/
theorem due_all (o : Op) (e : Dev nD) (k : Cell) :
    ∑ d : Dev nD, due d o (gc e k) () = if (dueCell o).map Prod.fst = some k then one k else 0 := by
  cases h : dueCell o with
  | none =>
    rw [Finset.sum_congr rfl fun d _ => by rw [due_none d o h]]
    exact Finset.sum_const_zero
  | some x =>
    obtain ⟨k', t⟩ := x
    rw [Option.map_some]
    rw [Finset.sum_congr rfl fun d _ => by rw [due_some d o k' t h, tallyAt_apply]]
    by_cases hk : k' = k
    · subst hk
      rw [if_pos (rfl : some k' = some k')]
      obtain ⟨d₀, hd₀⟩ := (Finite.injective_iff_surjective.mp (payee_inj k' t)) e
      have hd₀ : payee d₀ k' t = e := hd₀
      rw [Finset.sum_eq_single d₀]
      · rw [if_pos ⟨by rw [hd₀], rfl⟩]
      · intro d _ hd
        rw [if_neg]
        rintro ⟨h', -⟩
        exact hd (payee_inj k' t ((gc_inj h').1.symm.trans hd₀.symm))
      · intro h'; exact absurd (Finset.mem_univ _) h'
    · rw [if_neg fun h' : some k' = some k => hk (Option.some.inj h')]
      refine Finset.sum_eq_zero fun d _ => if_neg ?_
      rintro ⟨h', -⟩
      exact hk (gc_inj h').2.symm

theorem dueSum_all (os : List Op) (e : Dev nD) (k : Cell) :
    ∑ d : Dev nD, dueSum d os (gc e k) () = os.countP (fun o => (dueCell o).map Prod.fst = some k) * one k := by
  induction os with
  | nil => rw [List.countP_nil, Nat.zero_mul]; exact Finset.sum_const_zero
  | cons o os ih =>
    have h (d : Dev nD) : dueSum d (o :: os) (gc e k) () = due d o (gc e k) () + dueSum d os (gc e k) () := rfl
    rw [Finset.sum_congr rfl fun d _ => h d, Finset.sum_add_distrib, ih, due_all, List.countP_cons]
    by_cases hk : (dueCell o).map Prod.fst = some k
    · rw [if_pos hk, if_pos (by simpa using hk), Nat.add_mul, Nat.one_mul, Nat.add_comm]
    · rw [if_neg hk, if_neg (by simpa using hk), Nat.zero_add, Nat.add_zero]

set_option maxRecDepth 100000 in
theorem counts : ∀ k ∈ creds, ops.countP (fun o => (dueCell o).map Prod.fst = some k) = if isB k then 3 else 1 := by decide +kernel

theorem owed_tot (e : Dev nD) (k : Cell) (h : k ∈ creds) : ∑ d : Dev nD, dueSum d ops (gc e k) () = tot k := by
  rw [dueSum_all, counts k h]
  unfold one tot
  split
  · rfl
  · rw [Nat.one_mul]

theorem creds_nodup : (creds.map sl).Nodup := by decide +kernel

/-- What the launch owes on behalf of a device. -/
def O₀ (d : Dev nD) : CellTallies nD τ sig Unit := dueSum d ops

theorem launch_tally (e : Dev nD) (k : Cell) (h : k ∈ creds) :
    tallyOn (gc e k) (launchCredit (Pipeline.owing O₀) 0 (gc e k)) = (tallyAt (gc e k) () (tot k) : CellTallies nD τ sig Unit) := by
  unfold tallyAt
  refine congrArg _ (Finsupp.ext fun u => ?_)
  cases u
  rw [Pipeline.launchCredit_owing, Finsupp.single_eq_same]
  exact owed_tot e k h

theorem credits (d : Dev nD) : (Pipeline.launchCred O₀ d : sProp 𝕄) ⊢ own m d (creds.map .cr) := by
  unfold Pipeline.launchCred own
  refine (lsep_part _ _ creds_nodup).trans ?_
  rw [List.map_map, List.map_map]
  refine lsep_mono _ _ _ fun k hk => ?_
  show cred (tallyOn (gc d k) (launchCredit (Pipeline.owing O₀) 0 (gc d k))) ⊢ cred (tallyAt (gc d k) () (tot k))
  rw [launch_tally d k hk]

end Cert.AllReduce

end
-- ==== Proof.Launch.lean ====
/-
The launch: what each device is dealt, the kernel's body as the call's obligation, and the run of the whole program.
-/
module

public import proofs.«01_k».proof.Proof.Credits
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The kernel's own cells: all but the one of the runtime's barrier. -/
def ocells : List Cell := cells.erase .bar
theorem ocells_length : ocells.length = 141 := by decide +kernel
def ocell (i : Fin 141) : Cell := ocells.get (i.cast ocells_length.symm)
def osem (i : Fin 141) : SemLoc sig := sl (ocell i)

theorem ocells_nodup : ocells.Nodup := by decide +kernel
theorem ocell_inj : Function.Injective ocell := fun i j h => by
  have := ocells_nodup.get_inj_iff.mp h
  exact Fin.ext (congrArg Fin.val this)

theorem own_scoped (k : Cell) (h : k ≠ .bar) : (sl k).isScoped .tc = true := by
  revert k; decide +kernel
theorem ocell_ne (i : Fin 141) : ocell i ≠ .bar := by
  intro h
  have hm : ocell i ∈ ocells := List.get_mem _ _
  rw [h] at hm
  exact absurd hm (by decide +kernel)

theorem ownSemFacts : Pipeline.OwnSemFacts cfg0.spec osem where
  isScoped i := own_scoped _ (ocell_ne i)
  inj i j h := ocell_inj (sl_inj h)
  disj _ w := w.elim0

omit [FloatOps F] in
theorem own_list : (List.finRange 141).map ocell = ocells := by decide +kernel

omit [FloatOps F] in
theorem cells_fin (Φ : Cell → sProp 𝕄) : bigSep Finset.univ (fun i : Fin 141 => Φ (ocell i)) = lsep (ocells.map Φ) := by
  rw [lsep_univ _ (List.finRange 141) (List.nodup_finRange 141) (List.mem_finRange), ← own_list, List.map_map]; rfl

omit [FloatOps F] in
theorem ownSems0_eq (d : Dev nD) : (Pipeline.ownSems0 (Ix := Unit) (Name := ℕ) (U := UU) (Lvl := ℕ) (Val := Elt F) (τ := τ) osem d : sProp 𝕄)
    = lsep (ocells.map fun k => semVal (gc d k) 0) := cells_fin fun k => semVal (gc d k) 0

omit [FloatOps F] in
theorem unscopedSems0_eq (d : Dev nD) : (unscopedSems0 d : sProp 𝕄) = semVal (gc d .bar) 0 := by
  unfold unscopedSems0
  rw [bigSep_eq_bigSepL_of_eq [sl .bar] (by decide +kernel) (by decide +kernel)]; rfl

omit [FloatOps F] in
/-- All of a device's counters at zero are its own cells' and the barrier's. -/
theorem sems_all (d : Dev nD) :
    (bigSep Finset.univ fun k : Cell => semVal (gc d k) 0 : sProp 𝕄) = iprop(semVal (gc d .bar) 0 ∗ lsep (ocells.map fun k => semVal (gc d k) 0)) := by
  have hn : (Cell.bar :: ocells).Nodup := by decide +kernel
  have hm : ∀ k : Cell, k ∈ Cell.bar :: ocells := by decide +kernel
  rw [lsep_univ _ (Cell.bar :: ocells) hn hm]; rfl

/-! ## Ghost state -/

theorem cell_inj : Function.Injective fun x : Dev nD × Cell => gc x.1 x.2 := by
  rintro ⟨d, k⟩ ⟨d', k'⟩ h
  obtain ⟨rfl, rfl⟩ := gc_inj h
  rfl
def allCells : Finset (GSem nD τ sig) := Finset.univ.map ⟨_, cell_inj⟩

/-- The duties, numbered. -/
theorem toks_length : toks.length = 146 := by decide +kernel
def tokAt (i : Fin 146) : Cell × Fin 3 := toks.get (i.cast toks_length.symm)
theorem toks_nodup : toks.Nodup := by decide +kernel
theorem tokAt_inj : Function.Injective tokAt := fun i j h => by
  have := toks_nodup.get_inj_iff.mp h
  exact Fin.ext (congrArg Fin.val this)
theorem tok_list : (List.finRange 146).map tokAt = toks := by decide +kernel

/-- The right to pay a duty, by the device that pays it. -/
def tokOf (x : Dev nD × Fin 146) : GSem nD τ sig × ℕ × Fin 3 :=
  (gc (payee x.1 (tokAt x.2).1 (tokAt x.2).2) (tokAt x.2).1, 0, (tokAt x.2).2)
theorem tokOf_inj : Function.Injective tokOf := by
  rintro ⟨d, i⟩ ⟨d', i'⟩ h
  have h₁ := gc_inj (congrArg Prod.fst h)
  have h₂ : (tokAt i).2 = (tokAt i').2 := congrArg (fun x => x.2.2) h
  obtain rfl := tokAt_inj (Prod.ext h₁.2 h₂)
  obtain rfl := payee_inj _ _ h₁.1
  rfl
def allToks : Finset (GSem nD τ sig × ℕ × Fin 3) := Finset.univ.map ⟨tokOf, tokOf_inj⟩

def u₀ : UU :=
  (initOf (Pipeline.cells cfgs cellOf_inj) (Pipeline.launchToks cfgs cellOf_inj), initOf allCells allToks)

/-- The rights to pay and the places of a device. -/
def rights (d : Dev nD) : sProp 𝕄 := own m d (toks.map fun x => .tk x.1 x.2)
def places (d : Dev nD) : sProp 𝕄 := own m d (cells.map .at0)

/-- What the launch deals a device. -/
def G (d : Dev nD) : sProp 𝕄 :=
  iprop((bigSep Finset.univ fun k : Cell => roundState ER (Rd m) (gc d k) 0)
    ∗ (bigSep Finset.univ fun k : Cell => reached ER (gc d k) 0) ∗ places m d ∗ rights m d)

/-- The same with the invariants in place. -/
def G' (d : Dev nD) : sProp 𝕄 := iprop((∃ K, recs m K) ∗ places m d ∗ rights m d)

theorem places_eq (d : Dev nD) : (bigSep Finset.univ fun k : Cell => (atPos ER (gc d k) 0 ∅ 0 : sProp 𝕄)) = places m d := by
  rw [lsep_univ _ cells cells_nodup mem_cells]
  unfold places own
  rw [List.map_map]; rfl

theorem rights_eq (d : Dev nD) :
    (bigSep Finset.univ fun i : Fin 146 => (dutyTok ER (tokOf (d, i)).1 (tokOf (d, i)).2.1 (tokOf (d, i)).2.2 : sProp 𝕄)) = rights m d := by
  rw [lsep_univ _ (List.finRange 146) (List.nodup_finRange 146) (List.mem_finRange)]
  unfold rights own
  rw [← tok_list, List.map_map, List.map_map]; rfl

theorem fund_all : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Cell => Φ (gc d k) := by
    unfold allCells; rw [bigSep_map, bigSep_univ_prod]; rfl
  have hA : bigSep allCells (fun g => (atPos ER g 0 ∅ 0 : sProp 𝕄)) = bigSep Finset.univ fun d : Dev nD => places m d := by
    rw [hX]; exact bigSep_congr fun d _ => places_eq m d
  have hT : bigSep allToks (fun x => (dutyTok ER x.1 x.2.1 x.2.2 : sProp 𝕄)) = bigSep Finset.univ fun d : Dev nD => rights m d := by
    unfold allToks; rw [bigSep_map, bigSep_univ_prod]
    exact bigSep_congr fun d _ => rights_eq m d
  have hf := Rounds.fund ER (Rd m) allCells allToks
  rw [hA, hT, hX, hX] at hf
  iintro H
  imod hf $$ H with ⟨Hst, Hr, Hat, Htok⟩
  imodintro
  unfold G; simp only [bigSep_sep']
  isplitl [Hst]; · iexact Hst
  isplitl [Hr]; · iexact Hr
  isplitl [Hat] <;> iassumption

/-- A device's invariants, allocated. -/
theorem alloc_dev (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Cell => iprop(∃ κ : ℕ, cellInv ER (Rd m) κ (gc d k)))
          ∗ (bigSep Finset.univ fun k : Cell => reached ER (gc d k) 0) ∗ places m d ∗ rights m d) := by
  have ha : iprop((bigSep Finset.univ fun k : Cell => semVal (gc d k) 0) ∗ bigSep Finset.univ fun k : Cell => roundState ER (Rd m) (gc d k) 0)
      ⊢ (|={Set.univ}=> bigSep Finset.univ fun k : Cell => iprop(∃ κ : ℕ, cellInv ER (Rd m) κ (gc d k)) : sProp 𝕄) := by
    rw [← bigSep_sep']
    exact (bigSep_mono fun k _ => (Rounds.body_intro ER (Rd m) (gc d k)).trans inv_alloc).trans (bigSep_fupd _ _)
  rw [sems_all] at ha
  rw [ownSems0_eq, unscopedSems0_eq]
  unfold G
  iintro ⟨Hos, Hus, Hst, Hr, Hat, Htok⟩
  imod ha $$ [Hos Hus Hst] with HI
  · isplitl [Hos Hus]
    · isplitl [Hus] <;> iassumption
    iexact Hst
  imodintro
  isplitl [HI]; · iexact HI
  isplitl [Hr]; · iexact Hr
  isplitl [Hat] <;> iassumption

/-- All devices' records, shared out. -/
theorem share_out :
    (bigSep Finset.univ fun d : Dev nD => iprop((bigSep Finset.univ fun k : Cell => iprop(∃ κ : ℕ, cellInv ER (Rd m) κ (gc d k)))
          ∗ (bigSep Finset.univ fun k : Cell => reached ER (gc d k) 0) ∗ places m d ∗ rights m d) : sProp 𝕄)
      ⊢ bigSep Finset.univ (G' m) := by
  have hK := BI.bigSep_exists_pi Finset.univ fun (x : Dev nD × Cell) (κ : ℕ) => (cellInv ER (Rd m) κ (gc x.1 x.2) : sProp 𝕄)
  have hs (K : Dev nD × Cell → ℕ) : iprop(recs m K ∗ bigSep Finset.univ fun d : Dev nD => iprop(places m d ∗ rights m d)) ⊢ bigSep Finset.univ (G' m) := by
    refine BI.Entails.trans (sep_mono_left (BI.bigSep_of_persistent (Finset.univ : Finset (Dev nD)) (recs m K))) ?_
    rw [← bigSep_sep']
    refine bigSep_mono fun d _ => ?_
    unfold G'
    show (_ : sProp 𝕄) ⊢ _
    iintro ⟨HI, H⟩
    isplitl [HI]
    · iexists K; iexact HI
    iexact H
  rw [bigSep_sep', bigSep_sep', ← bigSep_univ_prod (fun x : Dev nD × Cell => iprop(∃ κ : ℕ, cellInv ER (Rd m) κ (gc x.1 x.2))),
    ← bigSep_univ_prod (fun x : Dev nD × Cell => (reached ER (gc x.1 x.2) 0 : sProp 𝕄))]
  iintro ⟨HI, HR, Hd⟩
  ihave HI := hK $$ HI
  icases HI with ⟨%K, HI⟩
  iapply (hs K)
  isplitr [Hd]
  · unfold recs
    isplitl [HI] <;> iassumption
  iexact Hd

theorem glob : (bigSep Finset.univ fun d : Dev nD => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => alloc_dev m d).trans (bigSep_fupd _ _)).trans (BI.fupd_mono (share_out m))

/-! ## The body -/

/-- What a device has of its own besides the buffers, at the start and at the end. -/
def startG : List Res := creds.map .cr ++ (cells.map .at0 ++ toks.map (fun x => .tk x.1 x.2))

theorem own_start (d : Dev nD) : iprop(own m d startB ∗ own m d startG) ⊢ own m d start := by
  have e : start = startB ++ startG := by
    unfold start startB startG; simp only [List.append_assoc]
  rw [e]
  exact (own_append m d _ _).2

theorem own_stop (d : Dev nD) : own m d stop ⊢ iprop(own m d (cells.map .fin) ∗ own m d stopB) :=
  (own_append m d _ _).1

/-- Before the body, and after it. -/
def Φ₀ (d : Dev nD) : sProp 𝕄 := iprop((∃ K, recs m K) ∗ levAts L lv ∗ own m d start ∗ rest m d)
def Φ₁ (d : Dev nD) : sProp 𝕄 := iprop(own m d stop ∗ rest m d)

def dats (_ : Fin 1) (d : Dev nD) : Pipeline.Dat τ (Elt F) Unit ℕ UU ℕ cfg0 d where
  A w := m ((cfg0.win w).arr.view.loc (d : Thread nD τ))
  after w _ := w.elim0
  Φ t := match t with
    | ⟨0, _⟩ => Φ₀ m d
    | ⟨_ + 1, _⟩ => Φ₁ m d
  q _ := fullShare
  owed t := match t with
    | ⟨0, _⟩ => O₀ d
    | ⟨_ + 1, _⟩ => 0

set_option maxRecDepth 20000 in
theorem body_obligation (d : Dev nD) : BodyObligation (dats (F := F) m 0 d) (defs₀ (F := F)) 𝒱₀ () Set.univ := fun t => by
  have hr (K : Dev nD × Cell → ℕ) (W : Waits sig Unit) := run_ops m K d W
    (fun _ => iprop(Φ₁ m d ∗ (dats m 0 d).owesAt () t0_0.succ ∗ emp))
  rw [fin_N0 t, Finset.univ_eq_empty, bigSep_empty, bigSep_empty]
  show iprop(Φ₀ m d ∗ (dats m 0 d).owesAt () t0_0.castSucc ∗ emp) ⊢ wp frame (wpE (defs₀ (F := F)) 𝒱₀ (d : Thread nD τ) none) Set.univ
    (cc0_body (F := F) A0.x (Memref.isWhole_whole _) A0.out (Memref.isWhole_whole _) A0.cm (Memref.isWhole_whole _) A0.xv (Memref.isWhole_whole _)
      A0.ys A0.yr A0.cs A0.cr A0.as_ A0.ar A0.xin A0.od A0.sb)
    (fun _ => iprop(Φ₁ m d ∗ (dats m 0 d).owesAt () t0_0.succ ∗ emp))
  rw [body_eq A0, wp_deviceId]
  show iprop(Φ₀ m d ∗ (dats m 0 d).owesAt () t0_0.castSucc ∗ emp) ⊢ wpd d (runOps A0 d ops) (fun _ => iprop(Φ₁ m d ∗ (dats m 0 d).owesAt () t0_0.succ ∗ emp))
  unfold Φ₀ Φ₁ Pipeline.Dat.owesAt Pipeline.owesWithin at *
  rw [show (dats m 0 d).owed t0_0.castSucc = dueSum d ops from rfl]
  rw [show (dats m 0 d).owed t0_0.succ = 0 from rfl] at *
  iintro ⟨⟨⟨%K, #HI⟩, #Hlev, Hs, Hrest⟩, ⟨%W, -, HO⟩, -⟩
  iapply (hr K W) $$ [Hs HO]
  · isplitr; · iexact HI
    isplitr; · iexact Hlev
    isplitl [Hs] <;> iassumption
  iintro %W' Hs HO
  isplitl [Hs Hrest]
  · isplitl [Hs] <;> iassumption
  isplitl [HO]
  · iexists W'
    isplitr; · ipureintro; exact fun _ _ => Or.inl trivial
    iexact HO
  iempintro

/-! ## The call's conditions -/

/-- What goes in beside the scratch buffers. -/
def Xin (d : Dev nD) : sProp 𝕄 :=
  iprop((∃ K, recs m K) ∗ levAts L lv ∗ own m d startG ∗ xW d (X m d) ∗ ∃ f : Cont F, oW d f)
/-- What comes out. -/
def Yout (d : Dev nD) : sProp 𝕄 :=
  iprop(unscopedSems0 d ∗ xW d (X m d) ∗ ∃ g : Cont F, ⌜Out m g⌝ ∗ oW d g)

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(Xin m d ∗ emp) := by
  have hc := credits m d
  have hG : iprop(own m d (creds.map .cr) ∗ places m d ∗ rights m d) ⊢ own m d startG := by
    unfold startG places rights
    exact (sep_mono_right (own_append m d _ _).2).trans (own_append m d _ _).2
  have hx : ((d : Thread nD τ).loc main_arg0 ↦{fullShare} m ((d : Thread nD τ).loc main_arg0) : sProp 𝕄) ⊢ xW d (X m d) := BI.Entails.refl _
  have ho : ((d : Thread nD τ).loc main_v1 ↦{fullShare} m ((d : Thread nD τ).loc main_v1) : sProp 𝕄) ⊢ iprop(∃ f : Cont F, oW d f) := by
    iintro H
    iexists (m ((d : Thread nD τ).loc main_v1))
    unfold oW; iexact H
  rw [Pipeline.unscopedRestP_none, unscopedRest0_eq]
  unfold Xin G'
  iintro ⟨⟨Hx, Ho⟩, Hlev, Hcr, -, HK, Hp, Hr⟩
  imodintro
  isplitl
  · isplitl [HK]; · iexact HK
    isplitl [Hlev]; · iexact Hlev
    isplitl [Hcr Hp Hr]
    · iapply hG
      isplitl [Hcr]
      · iapply hc; iexact Hcr
      isplitl [Hp] <;> iassumption
    isplitl [Hx]
    · iapply hx; iexact Hx
    iapply ho; iexact Ho
  iempintro

theorem phi0_intro (d : Dev nD) :
    iprop(Xin m d ∗ Pipeline.prefHeld Pipeline.Prefetch.none d (fun _ => fullShare.right) (fun k => k.elim0) ∗ Pipeline.scopedRest cfg0.spec d)
      ⊢ (dats m 0 d).Φ 0 := by
  have hb (fo fc fv : Cont F) := break_up m d fo fc fv
  have hs := own_start m d
  have hc (f : Cont F) : ((d : Thread nD τ).loc cc0_scratch0 ↦{fullShare} f : sProp 𝕄) ⊢ cW d f := BI.Entails.refl _
  have hv (f : Cont F) : ((d : Thread nD τ).loc cc0_scratch1 ↦{fullShare} f : sProp 𝕄) ⊢ vW d f := BI.Entails.refl _
  rw [show (dats m 0 d).Φ 0 = Φ₀ m d from rfl, scopedRest0_eq]
  unfold Φ₀ Xin
  iintro ⟨⟨HK, Hlev, Hg, Hx, ⟨%fo, Ho⟩⟩, -, ⟨%fc, Hc⟩, ⟨%fv, Hv⟩⟩
  ihave Hb := (hb fo fc fv) $$ [Hx Ho Hc Hv]
  · isplitl [Hx]; · iexact Hx
    isplitl [Ho]; · iexact Ho
    isplitl [Hc]
    · iapply (hc fc); iexact Hc
    iapply (hv fv); iexact Hv
  icases Hb with ⟨Hb, Hr⟩
  isplitl [HK]; · iexact HK
  isplitl [Hlev]; · iexact Hlev
  isplitl [Hb Hg]
  · iapply hs
    isplitl [Hb] <;> iassumption
  iexact Hr

theorem phi1_exit (d : Dev nD) :
    (dats m 0 d).Φ (Fin.last cfg0.N) ⊢ iprop(Yout m d ∗ Pipeline.ownSems0 osem d ∗ Pipeline.scopedRest cfg0.spec d) := by
  have hs := own_stop m d
  have hp := put_together m d
  have hz : own m d (cells.map .fin) ⊢ iprop(semVal (gc d .bar) 0 ∗ lsep (ocells.map fun k => semVal (gc d k) 0)) := by
    rw [← sems_all, lsep_univ _ cells cells_nodup mem_cells]
    unfold own
    rw [List.map_map]
    exact BI.Entails.refl _
  have hc (f : Cont F) : cW d f ⊢ ((d : Thread nD τ).loc cc0_scratch0 ↦{fullShare} f : sProp 𝕄) := BI.Entails.refl _
  have hv (f : Cont F) : vW d f ⊢ ((d : Thread nD τ).loc cc0_scratch1 ↦{fullShare} f : sProp 𝕄) := BI.Entails.refl _
  rw [show (dats m 0 d).Φ (Fin.last cfg0.N) = Φ₁ m d from rfl, scopedRest0_eq, ownSems0_eq]
  unfold Φ₁ Yout
  rw [unscopedSems0_eq]
  iintro ⟨Hs, Hr⟩
  ihave Hs := hs $$ Hs
  icases Hs with ⟨Hz, Hs⟩
  ihave Hz := hz $$ Hz
  icases Hz with ⟨Hzb, Hz⟩
  ihave H := hp $$ [Hs Hr]
  · isplitl [Hs] <;> iassumption
  icases H with ⟨Hx, Ho, ⟨%fc, Hc⟩, ⟨%fv, Hv⟩⟩
  isplitl [Hzb Hx Ho]
  · isplitl [Hzb]; · iexact Hzb
    isplitl [Hx] <;> iassumption
  isplitl [Hz]; · iexact Hz
  isplitl [Hc]
  · iexists fc
    iapply (hc fc); iexact Hc
  iexists fv
  iapply (hv fv); iexact Hv

theorem waits (d : Dev nD) : (levAts L lv : sProp 𝕄) ⊢ Pipeline.cellsWaits cfgs (dats m) () 0 d :=
  Pipeline.cellsWaits_intro cfgs (dats m) () 0 d fun w _ _ => w.elim0

/-! ## The run -/

/-- What a device's memory holds at the end. -/
def QY (d : Dev nD) (s : MemSt nD τ sig (Elt F)) : Prop :=
  (s.mem ((d : Thread nD τ).loc main_arg0) = m ((d : Thread nD τ).loc main_arg0) ∧ Out m (s.mem ((d : Thread nD τ).loc main_v1))) ∧
    ∀ sm : SemLoc sig, sm.isScoped .tc = false → s.sem ((d.tc : Thread nD τ), sm) = 0

theorem read_out (d : Dev nD) (s' : Phys nD τ sig (Elt F)) :
    iprop(Yout m d ∗ emp ∗ SI s') ⊢ |={Set.univ}=> iprop(⌜QY m d s'.mem⌝ ∗ SI s') := by
  have hu := Pipeline.unscopedSems0_read (Val := Elt F) (Ix := Unit) (Name := ℕ) (U := UU) (Lvl := ℕ) (X := unscopedSems0 d) (c := d) fupd_intro s'
  unfold Yout xW oW
  iintro ⟨⟨Hu, Hx, ⟨%g, %hg, Ho⟩⟩, -, HSI⟩
  icombine HSI Hx gives %hx
  icombine HSI Ho gives %ho
  imod hu $$ [Hu HSI] with ⟨%hs, HSI⟩
  · isplitl [Hu] <;> iassumption
  imodintro
  isplitr
  · ipureintro
    have ho := Buf.eq_of_forall_mem_univ ho
    refine ⟨⟨Buf.eq_of_forall_mem_univ hx, ?_⟩, hs⟩
    rw [ho]; exact hg
  iexact HSI

set_option maxRecDepth 20000 in
/-- From any memory with zero counters every weakly fair execution of the program terminates; at the end each device's
    argument is what it was, its result is at every index the sum of a device's input and its mate's, and every counter
    is zero. -/
theorem run_main : θ_run defs (onTc (τ := τ) (main (F := F))) ⟨m, fun _ => 0, ρ⟩ (fun r =>
    (∀ d : Dev nD, r.2.mem ((d : Thread nD τ).loc main_arg0) = m ((d : Thread nD τ).loc main_arg0) ∧ Out m (r.2.mem ((d : Thread nD τ).loc main_v1)))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Xin m) (Y := Yout m) (Z := fun _ => iprop(emp))
    (hX := start_intro m ρ) (hin := phi0_intro m) (hout := phi1_exit m)
    (QY := QY m) (hY := read_out m)
    (hQ := fun _ h hs => ⟨fun d => (h d).2.2.1, sem_eq_zero hs fun d => (h d).2.2.2⟩)

end Cert.AllReduce

end
-- ==== Proof.Value.lean ====
/-
The value: over the ideal floats, every sum of a device's block and its mate's is the reference's result.

A device holds the upper or the lower half of the rows of the whole array, as its `y` is; its mate holds the other half.
Their sum at an index is the sum of the two halves there, whichever way round, and so is the reference's sum over the
leading axis of the two halves stacked.
-/
module

public import proofs.«01_k».proof.Proof.Launch
public import proofs.«01_k».proof.Proof.Gen.ReferenceIdeal.Run
public import Idealize.ShloMosaic.Lib.Layout
public import Idealize.ShloMosaic.Lib.Pointwise
public import Idealize.ShloMosaic.PureOps.Ideal
public import Idealize.ShloMosaic.Lib.IdealHost

@[expose] public section

noncomputable section

namespace Cert.AllReduce

open Cert.KernelIdeal Cert.KernelIdeal.Gen
open Idealize.ShloMosaic Idealize.ShloMosaic.TcCoe Idealize.SL.Sem

/-- The shape of the whole array. -/
abbrev SW : Shape := ⟨2, ![8192, 1024]⟩

/-- Row `i 0` of half `y` of the whole array. -/
def inHalf (y : Fin 2) (i : S4096x1024.Idx) : SW.Idx :=
  ix2 (n0 := 8192) (n1 := 1024) ⟨y.val * 4096 + (i 0).val, by have h : (i 0).val < 4096 := (i 0).isLt; have := y.isLt; omega⟩ ⟨(i 1).val, (i 1).isLt⟩

/-- Which half a device holds. -/
def half (d : Dev nD) : Fin 2 := ![0, 0, 1, 1, 0, 0, 1, 1] d

theorem half_mate (d : Dev nD) : half (mate d) = 1 - half d := by revert d; decide

theorem meshLin_half (d : Dev nD) : Layout.meshLin [2, 2, 2] d.val [1] = (half d).val := by revert d; decide

/-- A device's block is the half it holds. -/
theorem block_eq (x : SW.Idx → EReal) (d : Dev nD) (i : S4096x1024.Idx) :
    (Layout.blockN ⟨2, ![4096, 1024]⟩ ⟨2, ![8192, 1024]⟩ (Layout.meshBlock [2, 2, 2] ![[1], []] d) x) i = x (inHalf (half d) i) := by
  rw [Layout.blockN_apply]
  congr 1
  funext b
  apply Fin.ext
  rw [Layout.TilesN.idx_val]
  match b with
  | ⟨0, _⟩ =>
    show Layout.meshLin [2, 2, 2] d.val [1] * 4096 + (i 0).val = (half d).val * 4096 + (i 0).val
    rw [meshLin_half]
  | ⟨1, _⟩ =>
    show 0 * 1024 + (i 1).val = (i 1).val
    omega

/-- The reference's result at an index: the two halves there, added. -/
theorem reference_apply (x : SW.Idx → EReal) (i : S4096x1024.Idx) :
    Host.reduceAdd (F := Ideal) (φ := .f32) (shapeCast ReferenceIdeal.S2x4096x1024 x ReferenceIdeal.Gen.shapeCasts_S8192x1024_S2x4096x1024)
      (constant ReferenceIdeal.S_ .f32 0x00000000#32) ReferenceIdeal.Gen.reducesTo_S2x4096x1024_S4096x1024_d0 ReferenceIdeal.Gen.h_S_ i
      = x (inHalf 0 i) + x (inHalf 1 i) := by
  simp only [Host.reduceAdd_apply, Ideal.hostReduceAdd_def, Ideal.hostReduceAdd_r3_a0, Fin.sum_univ_two]
  have hc : (constant (F := Ideal) ReferenceIdeal.S_ .f32 0x00000000#32) (Shape.Idx.first ReferenceIdeal.Gen.h_S_) = (0 : EReal) :=
    Ideal.ofBits_zero_f32
  have hr (y : Fin 2) (a : Fin 4096) (b : Fin 1024) (ha : a.val = (i 0).val) (hb : b.val = (i 1).val) :
      shapeCast ReferenceIdeal.S2x4096x1024 x ReferenceIdeal.Gen.shapeCasts_S8192x1024_S2x4096x1024 (ix3 y a b) = x (inHalf y i) := by
    show x (Shape.reshapeEquiv _ _) = _
    congr 1
    apply Shape.reshapeEquiv_eq_of_rowMajor
    rw [Shape.rowMajor_val_two, Shape.rowMajor_val_three]
    show (y.val * 4096 + (i 0).val) * 1024 + (i 1).val = (y.val * 4096 + a.val) * 1024 + b.val
    rw [ha, hb]
  rw [hc, zero_add]
  exact congrArg₂ (· + ·) (hr 0 _ _ rfl rfl) (hr 1 _ _ rfl rfl)

/-- The sum of any device's block and its mate's. -/
theorem sum_apply (x : SW.Idx → EReal) (m : (ℓ : Loc nD τ sig) → Buf (Elt Ideal) ℓ)
    (hm : ∀ c : Dev nD, X m c = Layout.blockN ⟨2, ![4096, 1024]⟩ ⟨2, ![8192, 1024]⟩ (Layout.meshBlock [2, 2, 2] ![[1], []] c) x)
    (e : Dev nD) (i : S4096x1024.Idx) : Sm m e i = (x (inHalf 0 i) + x (inHalf 1 i) : EReal) := by
  have h : Sm m e i = (x (inHalf (half e) i) + x (inHalf (half (mate e)) i) : EReal) := by
    show (X m e i + X m (mate e) i : EReal) = _
    rw [hm e, hm (mate e)]
    exact congrArg₂ (· + ·) (block_eq x e i) (block_eq x (mate e) i)
  rw [h, half_mate]
  generalize half e = y
  fin_cases y
  · rfl
  · exact add_comm _ _

/-- What a run leaves as a result is the reference's. -/
theorem out_eq (x : SW.Idx → EReal) (m : (ℓ : Loc nD τ sig) → Buf (Elt Ideal) ℓ)
    (hm : ∀ c : Dev nD, X m c = Layout.blockN ⟨2, ![4096, 1024]⟩ ⟨2, ![8192, 1024]⟩ (Layout.meshBlock [2, 2, 2] ![[1], []] c) x)
    (g : Cont Ideal) (hg : Out m g) :
    g = Host.reduceAdd (F := Ideal) (φ := .f32) (shapeCast ReferenceIdeal.S2x4096x1024 x ReferenceIdeal.Gen.shapeCasts_S8192x1024_S2x4096x1024)
      (constant ReferenceIdeal.S_ .f32 0x00000000#32) ReferenceIdeal.Gen.reducesTo_S2x4096x1024_S4096x1024_d0 ReferenceIdeal.Gen.h_S_ := by
  funext i
  obtain ⟨e, h⟩ := hg i
  exact h.trans ((sum_apply x m hm e i).trans (reference_apply x i).symm)

end Cert.AllReduce

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

set_option maxRecDepth 20000 in
/-- The kernel as printed runs, its argument ends unchanged and every counter at zero. -/
theorem frame_kernel : Cert.quiescent_Kernel := fun m ρ _ =>
  (θ_run Cert.KernelIdeal.defs _ _).mono (fun _ h => ⟨fun c => (h.1 c).1, h.2⟩) (AllReduce.run_main (F := Bits) m ρ)

set_option maxRecDepth 20000 in
/-- So does the kernel over ideal floats. -/
theorem frame_ideal : Cert.quiescent_KernelIdeal := fun m ρ _ =>
  (θ_run Cert.KernelIdeal.defs _ _).mono (fun _ h => ⟨fun c => (h.1 c).1, h.2⟩) (AllReduce.run_main (F := Ideal) m ρ)

/-- The reference runs, its argument ends unchanged, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 20000 in
/-- Over ideal floats every device's result is the reference's. -/
theorem algebraic : Cert.algebraic_KernelIdeal_ReferenceIdeal := fun m ρ m' ρ' _ hm =>
  ⟨_, (θ_run Cert.KernelIdeal.defs _ _).mono
      (fun _ h c => ⟨AllReduce.out_eq _ m hm _ (h.1 c).2, (h.1 c).1⟩) (AllReduce.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
